-- ==== Defs.lean ====
def Pre_Kernel [hPre_rows_exist : Cert.Pre_rows_exist.Facts] (m : (ℓ : Loc Cert.Kernel.nD Cert.Kernel.τ Cert.Kernel.sig) → Buf (Elt Bits) ℓ) : Prop :=
  ∀ c : Dev Cert.Kernel.nD,
    (Cert.Pre_rows_exist.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_rows_exist : Cert.Pre_rows_exist.Facts] (m : (ℓ : Loc Cert.KernelIdeal.nD Cert.KernelIdeal.τ Cert.KernelIdeal.sig) → Buf (Elt Ideal) ℓ) : Prop :=
  ∀ c : Dev Cert.KernelIdeal.nD,
    (Cert.Pre_rows_exist.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_rows_exist_equal_bins [hPre_rows_exist_equal_bins : Cert.Pre_rows_exist_equal_bins.Facts] (m : (ℓ : Loc Cert.KernelIdeal.nD Cert.KernelIdeal.τ Cert.KernelIdeal.sig) → Buf (Elt Ideal) ℓ) : Prop :=
  ∀ c : Dev Cert.KernelIdeal.nD,
    (Cert.Pre_rows_exist_equal_bins.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rows_exist_equal_bins [hPre_rows_exist_equal_bins : Cert.Pre_rows_exist_equal_bins.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rows_exist_equal_bins.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_rows_exist : Cert.Pre_rows_exist.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_rows_exist : Cert.Pre_rows_exist.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_rows_exist_equal_bins [hKernelIdeal : Cert.KernelIdeal.Facts] [hPre_rows_exist_equal_bins : Cert.Pre_rows_exist_equal_bins.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rows_exist_equal_bins m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_rows_exist_equal_bins [hReferenceIdeal : Cert.ReferenceIdeal.Facts] [hPre_rows_exist_equal_bins : Cert.Pre_rows_exist_equal_bins.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rows_exist_equal_bins m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "inv_step" .f32 0x411655E8#32 ((1400 / 149 : ℝ) : EReal)
  ∧ IdealRules.named_const.Statement Cert.KernelIdeal.κ "offset" .f32 0x409655E8#32 ((700 / 149 : ℝ) : EReal)

def algebraic_KernelIdeal_ReferenceIdeal_pre_rows_exist_equal_bins [hKernelIdeal : Cert.KernelIdeal.Facts] [hReferenceIdeal : Cert.ReferenceIdeal.Facts] [hPre_rows_exist_equal_bins : Cert.Pre_rows_exist_equal_bins.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rows_exist_equal_bins m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_rows_exist : Cert.Pre_rows_exist.Facts) (hPre_rows_exist_equal_bins : Cert.Pre_rows_exist_equal_bins.Facts),
    quiescent_Kernel (hKernel := hKernel) (hPre_rows_exist := hPre_rows_exist)
    ∧ quiescent_KernelIdeal (hKernelIdeal := hKernelIdeal) (hPre_rows_exist := hPre_rows_exist)
    ∧ quiescent_KernelIdeal_pre_rows_exist_equal_bins (hKernelIdeal := hKernelIdeal) (hPre_rows_exist_equal_bins := hPre_rows_exist_equal_bins)
    ∧ quiescent_ReferenceIdeal (hReferenceIdeal := hReferenceIdeal)
    ∧ quiescent_ReferenceIdeal_pre_rows_exist_equal_bins (hReferenceIdeal := hReferenceIdeal) (hPre_rows_exist_equal_bins := hPre_rows_exist_equal_bins)
    ∧ preserves_Kernel_KernelIdeal
    ∧ algebraic_KernelIdeal_ReferenceIdeal_pre_rows_exist_equal_bins (hKernelIdeal := hKernelIdeal) (hReferenceIdeal := hReferenceIdeal) (hPre_rows_exist_equal_bins := hPre_rows_exist_equal_bins)
-- ==== Pre_rows_exist.lean ====
abbrev S8x512 : Shape := ⟨2, ![8, 512]⟩
abbrev S100001x128 : Shape := ⟨2, ![100001, 128]⟩
abbrev S128x2048 : Shape := ⟨2, ![128, 2048]⟩
abbrev S256x2048 : Shape := ⟨2, ![256, 2048]⟩
abbrev S16 : Shape := ⟨1, ![16]⟩
abbrev S1 : Shape := ⟨1, ![1]⟩
abbrev S_ : Shape := ⟨0, ![]⟩

class Facts : Prop where
  bcast_S_S8x512 : S_.BroadcastsInDim S8x512 (![] : Fin 0 → Fin S8x512.rank)

variable [Facts]

def fn {F : FTy → Type} [FloatOps F] (main_arg0 : IVec S8x512 32) (main_arg1 : FVec F S8x512 .f32) (main_arg2 : FVec F S100001x128 .f32) (main_arg3 : FVec F S128x2048 .f32) (main_arg4 : FVec F S256x2048 .f32) (main_arg5 : FVec F S16 .f32) (main_arg6 : FVec F S1 .f32) : IVec S8x512 1 :=
  let main_c : IVec S_ 32 := constantI S_ 32 0#32
  let main_v0 : IVec S8x512 32 := broadcastInDim S8x512 ![] bcast_S_S8x512 main_c
  let main_v1 : IVec S8x512 1 := cmpi .sge main_arg0 main_v0
  let main_c_0 : IVec S_ 32 := constantI S_ 32 100001#32
  let main_v2 : IVec S8x512 32 := broadcastInDim S8x512 ![] bcast_S_S8x512 main_c_0
  let main_v3 : IVec S8x512 1 := cmpi .slt main_arg0 main_v2
  let main_v4 : IVec S8x512 1 := andi main_v1 main_v3
  main_v4
-- ==== Pre_rows_exist_equal_bins.lean ====
abbrev S8x512 : Shape := ⟨2, ![8, 512]⟩
abbrev S100001x128 : Shape := ⟨2, ![100001, 128]⟩
abbrev S128x2048 : Shape := ⟨2, ![128, 2048]⟩
abbrev S256x2048 : Shape := ⟨2, ![256, 2048]⟩
abbrev S16 : Shape := ⟨1, ![16]⟩
abbrev S1 : Shape := ⟨1, ![1]⟩
abbrev S_ : Shape := ⟨0, ![]⟩
abbrev S13 : Shape := ⟨1, ![13]⟩

class Facts : Prop where
  bcast_S_S16 : S_.BroadcastsInDim S16 (![] : Fin 0 → Fin S16.rank)
  slices_S16_S13_2 : S16.Slices ![2] S13
  slices_S16_S1_2 : S16.Slices ![2] S1
  shapeCasts_S1_S_ : S1.ShapeCasts S_
  bcast_S_S13 : S_.BroadcastsInDim S13 (![] : Fin 0 → Fin S13.rank)
  reducesTo_S13_S_d0 : S13.ReducesTo [0] S_
  h_S_ : 0 < S_.numel
  slices_S16_S1_1 : S16.Slices ![1] S1
  slices_S16_S1_15 : S16.Slices ![15] S1
  bcast_S_S8x512 : S_.BroadcastsInDim S8x512 (![] : Fin 0 → Fin S8x512.rank)

variable [Facts]

def fn_part1 {F : FTy → Type} [FloatOps F] (main_arg0 : IVec S8x512 32) (main_v7 : IVec S_ 1) (main_v18 : IVec S_ 1) (main_v20 : FVec F S_ .f32) (main_cst_0 : FVec F S_ .f32) : IVec S8x512 1 :=
  let main_v21 : IVec S_ 1 := cmpf .olt main_v20 main_cst_0
  let main_v22 : IVec S_ 1 := andi main_v18 main_v21
  let main_c_1 : IVec S_ 32 := constantI S_ 32 0#32
  let main_v23 : IVec S8x512 32 := broadcastInDim S8x512 ![] bcast_S_S8x512 main_c_1
  let main_v24 : IVec S8x512 1 := cmpi .sge main_arg0 main_v23
  let main_c_2 : IVec S_ 32 := constantI S_ 32 100001#32
  let main_v25 : IVec S8x512 32 := broadcastInDim S8x512 ![] bcast_S_S8x512 main_c_2
  let main_v26 : IVec S8x512 1 := cmpi .slt main_arg0 main_v25
  let main_v27 : IVec S8x512 1 := andi main_v24 main_v26
  let main_v28 : IVec S8x512 1 := broadcastInDim S8x512 ![] bcast_S_S8x512 main_v7
  let main_v29 : IVec S8x512 1 := andi main_v27 main_v28
  let main_v30 : IVec S8x512 1 := broadcastInDim S8x512 ![] bcast_S_S8x512 main_v22
  let main_v31 : IVec S8x512 1 := andi main_v29 main_v30
  main_v31

def fn {F : FTy → Type} [FloatOps F] (main_arg0 : IVec S8x512 32) (main_arg1 : FVec F S8x512 .f32) (main_arg2 : FVec F S100001x128 .f32) (main_arg3 : FVec F S128x2048 .f32) (main_arg4 : FVec F S256x2048 .f32) (main_arg5 : FVec F S16 .f32) (main_arg6 : FVec F S1 .f32) : IVec S8x512 1 :=
  let main_cst : FVec F S_ .f32 := constant S_ .f32 0x00000000#32
  let main_v0 : FVec F S16 .f32 := broadcastInDim S16 ![] bcast_S_S16 main_cst
  let main_v1 : FVec F S16 .f32 := maximumf main_arg5 main_v0
  let main_v2 : FVec F S13 .f32 := (extractStridedSlice S13 ![2] · slices_S16_S13_2) main_v1
  let main_v3 : FVec F S1 .f32 := (extractStridedSlice S1 ![2] · slices_S16_S1_2) main_v1
  let main_v4 : FVec F S_ .f32 := shapeCast S_ main_v3 shapeCasts_S1_S_
  let main_v5 : FVec F S13 .f32 := broadcastInDim S13 ![] bcast_S_S13 main_v4
  let main_v6 : IVec S13 1 := cmpf .oeq main_v2 main_v5
  let main_c : IVec S_ 1 := constantI S_ 1 1#1
  let main_v7 : IVec S_ 1 := (fun x v => Host.reduce IntOp.andi x v reducesTo_S13_S_d0 h_S_) main_v6 main_c
  let main_v8 : FVec F S1 .f32 := (extractStridedSlice S1 ![1] · slices_S16_S1_1) main_v1
  let main_v9 : FVec F S_ .f32 := shapeCast S_ main_v8 shapeCasts_S1_S_
  let main_v10 : FVec F S1 .f32 := (extractStridedSlice S1 ![2] · slices_S16_S1_2) main_v1
  let main_v11 : FVec F S_ .f32 := shapeCast S_ main_v10 shapeCasts_S1_S_
  let main_v12 : IVec S_ 1 := cmpf .ole main_v9 main_v11
  let main_v13 : FVec F S1 .f32 := (extractStridedSlice S1 ![15] · slices_S16_S1_15) main_v1
  let main_v14 : FVec F S_ .f32 := shapeCast S_ main_v13 shapeCasts_S1_S_
  let main_v15 : FVec F S1 .f32 := (extractStridedSlice S1 ![2] · slices_S16_S1_2) main_v1
  let main_v16 : FVec F S_ .f32 := shapeCast S_ main_v15 shapeCasts_S1_S_
  let main_v17 : IVec S_ 1 := cmpf .ole main_v14 main_v16
  let main_v18 : IVec S_ 1 := andi main_v12 main_v17
  let main_v19 : FVec F S1 .f32 := (extractStridedSlice S1 ![1] · slices_S16_S1_1) main_v1
  let main_v20 : FVec F S_ .f32 := shapeCast S_ main_v19 shapeCasts_S1_S_
  let main_cst_0 : FVec F S_ .f32 := constant S_ .f32 0x7F800000#32
  fn_part1 (F := F) main_arg0 main_v7 main_v18 main_v20 main_cst_0
-- ==== Kernel.lean ====
abbrev S8x512 : Shape := ⟨2, ![8, 512]⟩
abbrev S100001x128 : Shape := ⟨2, ![100001, 128]⟩
abbrev S128x2048 : Shape := ⟨2, ![128, 2048]⟩
abbrev S256x2048 : Shape := ⟨2, ![256, 2048]⟩
abbrev S16 : Shape := ⟨1, ![16]⟩
abbrev S1 : Shape := ⟨1, ![1]⟩
abbrev S4096 : Shape := ⟨1, ![4096]⟩
abbrev S4096x128 : Shape := ⟨2, ![4096, 128]⟩
abbrev S128 : Shape := ⟨1, ![128]⟩
abbrev S128x128 : Shape := ⟨2, ![128, 128]⟩
abbrev S_ : Shape := ⟨0, ![]⟩
abbrev S1x8x512 : Shape := ⟨3, ![1, 8, 512]⟩
abbrev S8x256 : Shape := ⟨2, ![8, 256]⟩
abbrev S8x2048 : Shape := ⟨2, ![8, 2048]⟩
abbrev S512x128 : Shape := ⟨2, ![512, 128]⟩
abbrev S512x2048 : Shape := ⟨2, ![512, 2048]⟩
abbrev S1x1x512 : Shape := ⟨3, ![1, 1, 512]⟩
abbrev S1x512 : Shape := ⟨2, ![1, 512]⟩
abbrev S1x2048 : Shape := ⟨2, ![1, 2048]⟩

abbrev nBuf : Table → Nat
  | .hbm => 14
  | .local .tc .vmem => 6
  | .local .tc .smem => 2
  | .local .scVector .vmem => 2
  | _ => 0

abbrev bufTy : (tb : Table) → Fin (nBuf tb) → BufTy
  | .hbm, ⟨0, _⟩ => ⟨S8x512, .i32⟩
  | .hbm, ⟨1, _⟩ => ⟨S8x512, .f32⟩
  | .hbm, ⟨2, _⟩ => ⟨S100001x128, .f32⟩
  | .hbm, ⟨3, _⟩ => ⟨S128x2048, .f32⟩
  | .hbm, ⟨4, _⟩ => ⟨S256x2048, .f32⟩
  | .hbm, ⟨5, _⟩ => ⟨S16, .f32⟩
  | .hbm, ⟨6, _⟩ => ⟨S1, .f32⟩
  | .hbm, ⟨7, _⟩ => ⟨S4096, .i32⟩
  | .hbm, ⟨8, _⟩ => ⟨S4096x128, .f32⟩
  | .hbm, ⟨9, _⟩ => ⟨S1x8x512, .f32⟩
  | .hbm, ⟨10, _⟩ => ⟨S1x8x512, .bf16⟩
  | .hbm, ⟨11, _⟩ => ⟨S128x2048, .bf16⟩
  | .hbm, ⟨12, _⟩ => ⟨S256x2048, .bf16⟩
  | .hbm, ⟨13, _⟩ => ⟨S8x256, .f32⟩
  | .local .tc .vmem, ⟨0, _⟩ => ⟨S4096x128, .f32⟩
  | .local .tc .vmem, ⟨1, _⟩ => ⟨S1x8x512, .bf16⟩
  | .local .tc .vmem, ⟨2, _⟩ => ⟨S128x2048, .bf16⟩
  | .local .tc .vmem, ⟨3, _⟩ => ⟨S256x2048, .bf16⟩
  | .local .tc .vmem, ⟨4, _⟩ => ⟨S8x256, .f32⟩
  | .local .tc .vmem, ⟨5, _⟩ => ⟨S8x2048, .f32⟩
  | .local .tc .smem, ⟨0, _⟩ => ⟨S16, .f32⟩
  | .local .tc .smem, ⟨1, _⟩ => ⟨S1, .f32⟩
  | .local .scVector .vmem, ⟨0, _⟩ => ⟨S128, .i32⟩
  | .local .scVector .vmem, ⟨1, _⟩ => ⟨S128x128, .f32⟩
  | _, _ => ⟨S8x512, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 10 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTables nBuf rfl bufTy 4 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_arg2_scv : Ref sig .scVector := ⟨.hbm, 2, rfl⟩
abbrev main_v0_scv : Ref sig .scVector := ⟨.hbm, 7, rfl⟩
abbrev main_v1_scv : Ref sig .scVector := ⟨.hbm, 8, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg6_0 : Ref sig .tc := ⟨.vmem, 4, rfl⟩
abbrev cc1_scratch0 : Ref sig .tc := ⟨.vmem, 5, rfl⟩
abbrev cc1_stg4_0 : Ref sig .tc := ⟨.smem, 0, rfl⟩
abbrev cc1_stg5_0 : Ref sig .tc := ⟨.smem, 1, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem1_0 : DmaSem sig := 4
abbrev cc1_sem2_0 : DmaSem sig := 5
abbrev cc1_sem3_0 : DmaSem sig := 6
abbrev cc1_sem4_0 : DmaSem sig := 7
abbrev cc1_sem5_0 : DmaSem sig := 8
abbrev cc1_sem6_0 : DmaSem sig := 9
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  ![v2.toNat]
def k0_off2 (i : grid0.Coords) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c128_i32 : BitVec 32 := 128#32
  let v2 : BitVec 32 := Scalar.muli v1 c128_i32
  let c0_i32_3_r1 : BitVec 32 := 0#32
  ![v2.toNat, 0]
abbrev grid1 : Pipeline.Grid := ⟨1, ![1], ![false]⟩

def k1_off1 (i : grid1.Coords) (c0_i32 : BitVec 32) : Fin 2 → Nat :=
  let arg0 : BitVec 32 := BitVec.ofNat 32 (i 0).val
  let c8_i32 : BitVec 32 := 8#32
  let v75 : BitVec 32 := Scalar.muli arg0 c8_i32
  let v76 : BitVec 32 := Scalar.addi v75 c0_i32
  let v77 : Index := Scalar.indexCast v76
  let c0_27 : Index := 0#32
  ![v77.toNat, 0]
def k1_cond1 (i : grid1.Coords) : BitVec 1 :=
  let arg0 : BitVec 32 := BitVec.ofNat 32 (i 0).val
  let c0_i32_98 : BitVec 32 := 0#32
  let v284 : BitVec 1 := Scalar.cmpi .eq arg0 c0_i32_98
  let v285 : BitVec 32 := Scalar.extui v284
  let c0_i32_99 : BitVec 32 := 0#32
  let v286 : BitVec 1 := Scalar.cmpi .ne v285 c0_i32_99
  v286

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S4096x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true]

abbrev stage1_1 : Fin 1 → Memref sig .tc .vmem S1x8x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![true]

abbrev stage1_2 : Fin 1 → Memref sig .tc .vmem S128x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x2048 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .smem S16 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .smem S1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S8x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== KernelIdeal.lean ====
variable {F : FTy → Type} [FloatOps F] [Named F]
def κ : String → Option EReal := fun
  | "inv_step" => some ((1400 / 149 : ℝ) : EReal)
  | "offset" => some ((700 / 149 : ℝ) : EReal)
  | _ => none
-- ==== ReferenceIdeal.lean ====
abbrev S8x512 : Shape := ⟨2, ![8, 512]⟩
abbrev S100001x128 : Shape := ⟨2, ![100001, 128]⟩
abbrev S128x2048 : Shape := ⟨2, ![128, 2048]⟩
abbrev S256x2048 : Shape := ⟨2, ![256, 2048]⟩
abbrev S16 : Shape := ⟨1, ![16]⟩
abbrev S1 : Shape := ⟨1, ![1]⟩
abbrev S15 : Shape := ⟨1, ![15]⟩
abbrev S_ : Shape := ⟨0, ![]⟩
abbrev S8x512x1 : Shape := ⟨3, ![8, 512, 1]⟩
abbrev S1x1x1 : Shape := ⟨3, ![1, 1, 1]⟩
abbrev S8x512x128 : Shape := ⟨3, ![8, 512, 128]⟩
abbrev S8x512x2048 : Shape := ⟨3, ![8, 512, 2048]⟩
abbrev S8x512x2048x1 : Shape := ⟨4, ![8, 512, 2048, 1]⟩
abbrev S1x1x1x15 : Shape := ⟨4, ![1, 1, 1, 15]⟩
abbrev S8x512x2048x15 : Shape := ⟨4, ![8, 512, 2048, 15]⟩
abbrev S1x1x1x1 : Shape := ⟨4, ![1, 1, 1, 1]⟩
abbrev S8x2048 : Shape := ⟨2, ![8, 2048]⟩
abbrev S2048x256 : Shape := ⟨2, ![2048, 256]⟩
abbrev S8x256 : Shape := ⟨2, ![8, 256]⟩

abbrev nBuf : Space → Nat
  | .hbm => 83
  | .vmem => 0
  | .smem => 0
  | _ => 0

abbrev bufTy : (tb : Table) → Fin (tcTables nBuf tb) → BufTy
  | .hbm, ⟨0, _⟩ => ⟨S8x512, .i32⟩
  | .hbm, ⟨1, _⟩ => ⟨S8x512, .f32⟩
  | .hbm, ⟨2, _⟩ => ⟨S100001x128, .f32⟩
  | .hbm, ⟨3, _⟩ => ⟨S128x2048, .f32⟩
  | .hbm, ⟨4, _⟩ => ⟨S256x2048, .f32⟩
  | .hbm, ⟨5, _⟩ => ⟨S16, .f32⟩
  | .hbm, ⟨6, _⟩ => ⟨S1, .f32⟩
  | .hbm, ⟨7, _⟩ => ⟨S15, .i32⟩
  | .hbm, ⟨8, _⟩ => ⟨S15, .f32⟩
  | .hbm, ⟨9, _⟩ => ⟨S_, .f32⟩
  | .hbm, ⟨10, _⟩ => ⟨S15, .f32⟩
  | .hbm, ⟨11, _⟩ => ⟨S15, .f32⟩
  | .hbm, ⟨12, _⟩ => ⟨S_, .f32⟩
  | .hbm, ⟨13, _⟩ => ⟨S15, .f32⟩
  | .hbm, ⟨14, _⟩ => ⟨S15, .f32⟩
  | .hbm, ⟨15, _⟩ => ⟨S_, .f32⟩
  | .hbm, ⟨16, _⟩ => ⟨S15, .f32⟩
  | .hbm, ⟨17, _⟩ => ⟨S15, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S_, .f32⟩
  | .hbm, ⟨23, _⟩ => ⟨S16, .f32⟩
  | .hbm, ⟨24, _⟩ => ⟨S16, .f32⟩
  | .hbm, ⟨25, _⟩ => ⟨S16, .f32⟩
  | .hbm, ⟨26, _⟩ => ⟨S_, .i32⟩
  | .hbm, ⟨27, _⟩ => ⟨S8x512, .i32⟩
  | .hbm, ⟨28, _⟩ => ⟨S8x512, .i1⟩
  | .hbm, ⟨29, _⟩ => ⟨S_, .i32⟩
  | .hbm, ⟨30, _⟩ => ⟨S8x512, .i32⟩
  | .hbm, ⟨31, _⟩ => ⟨S8x512, .i32⟩
  | .hbm, ⟨32, _⟩ => ⟨S8x512, .i32⟩
  | .hbm, ⟨33, _⟩ => ⟨S8x512x1, .i32⟩
  | .hbm, ⟨34, _⟩ => ⟨S1, .i32⟩
  | .hbm, ⟨35, _⟩ => ⟨S_, .i32⟩
  | .hbm, ⟨36, _⟩ => ⟨S8x512x1, .i32⟩
  | .hbm, ⟨37, _⟩ => ⟨S8x512x1, .i1⟩
  | .hbm, ⟨38, _⟩ => ⟨S1x1x1, .i32⟩
  | .hbm, ⟨39, _⟩ => ⟨S8x512x1, .i32⟩
  | .hbm, ⟨40, _⟩ => ⟨S8x512x1, .i1⟩
  | .hbm, ⟨41, _⟩ => ⟨S8x512x1, .i1⟩
  | .hbm, ⟨42, _⟩ => ⟨S_, .i1⟩
  | .hbm, ⟨43, _⟩ => ⟨S8x512, .i1⟩
  | .hbm, ⟨44, _⟩ => ⟨S8x512x128, .f32⟩
  | .hbm, ⟨45, _⟩ => ⟨S8x512x128, .i1⟩
  | .hbm, ⟨46, _⟩ => ⟨S_, .f32⟩
  | .hbm, ⟨47, _⟩ => ⟨S8x512x128, .f32⟩
  | .hbm, ⟨48, _⟩ => ⟨S8x512x128, .f32⟩
  | .hbm, ⟨49, _⟩ => ⟨S8x512x2048, .f32⟩
  | .hbm, ⟨50, _⟩ => ⟨S8x512x2048x1, .f32⟩
  | .hbm, ⟨51, _⟩ => ⟨S1x1x1x15, .f32⟩
  | .hbm, ⟨52, _⟩ => ⟨S8x512x2048x15, .f32⟩
  | .hbm, ⟨53, _⟩ => ⟨S8x512x2048x15, .f32⟩
  | .hbm, ⟨54, _⟩ => ⟨S8x512x2048x15, .i1⟩
  | .hbm, ⟨55, _⟩ => ⟨S8x512x2048x15, .i32⟩
  | .hbm, ⟨56, _⟩ => ⟨S_, .i32⟩
  | .hbm, ⟨57, _⟩ => ⟨S8x512x2048, .i32⟩
  | .hbm, ⟨58, _⟩ => ⟨S_, .i32⟩
  | .hbm, ⟨59, _⟩ => ⟨S8x512x2048, .i32⟩
  | .hbm, ⟨60, _⟩ => ⟨S8x512x2048, .i1⟩
  | .hbm, ⟨61, _⟩ => ⟨S_, .i32⟩
  | .hbm, ⟨62, _⟩ => ⟨S8x512x2048, .i32⟩
  | .hbm, ⟨63, _⟩ => ⟨S8x512x2048, .i32⟩
  | .hbm, ⟨64, _⟩ => ⟨S8x512x2048, .i32⟩
  | .hbm, ⟨65, _⟩ => ⟨S8x512x2048x1, .i32⟩
  | .hbm, ⟨66, _⟩ => ⟨S1, .i32⟩
  | .hbm, ⟨67, _⟩ => ⟨S_, .i32⟩
  | .hbm, ⟨68, _⟩ => ⟨S8x512x2048x1, .i32⟩
  | .hbm, ⟨69, _⟩ => ⟨S8x512x2048x1, .i1⟩
  | .hbm, ⟨70, _⟩ => ⟨S1x1x1x1, .i32⟩
  | .hbm, ⟨71, _⟩ => ⟨S8x512x2048x1, .i32⟩
  | .hbm, ⟨72, _⟩ => ⟨S8x512x2048x1, .i1⟩
  | .hbm, ⟨73, _⟩ => ⟨S8x512x2048x1, .i1⟩
  | .hbm, ⟨74, _⟩ => ⟨S_, .i1⟩
  | .hbm, ⟨75, _⟩ => ⟨S8x512x2048, .i1⟩
  | .hbm, ⟨76, _⟩ => ⟨S8x512x2048, .f32⟩
  | .hbm, ⟨77, _⟩ => ⟨S_, .f32⟩
  | .hbm, ⟨78, _⟩ => ⟨S8x512x2048, .f32⟩
  | .hbm, ⟨79, _⟩ => ⟨S8x512x2048, .f32⟩
  | .hbm, ⟨80, _⟩ => ⟨S8x2048, .f32⟩
  | .hbm, ⟨81, _⟩ => ⟨S2048x256, .f32⟩
  | .hbm, ⟨82, _⟩ => ⟨S8x256, .f32⟩
  | _, _ => ⟨S8x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_call0_cst : Ref sig .tc := ⟨.hbm, 18, rfl⟩
abbrev main_call0_v0 : Ref sig .tc := ⟨.hbm, 19, rfl⟩
abbrev main_v8 : Ref sig .tc := ⟨.hbm, 20, rfl⟩
abbrev main_call1_call0_cst : Ref sig .tc := ⟨.hbm, 21, rfl⟩
abbrev main_call1_call0_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_call2_c : Ref sig .tc := ⟨.hbm, 26, rfl⟩
abbrev main_call2_v0 : Ref sig .tc := ⟨.hbm, 27, rfl⟩
abbrev main_call2_v1 : Ref sig .tc := ⟨.hbm, 28, rfl⟩
abbrev main_call2_c_0 : Ref sig .tc := ⟨.hbm, 29, rfl⟩
abbrev main_call2_v2 : Ref sig .tc := ⟨.hbm, 30, rfl⟩
abbrev main_call2_v3 : Ref sig .tc := ⟨.hbm, 31, rfl⟩
abbrev main_call2_v4 : Ref sig .tc := ⟨.hbm, 32, rfl⟩
abbrev main_call2_v5 : Ref sig .tc := ⟨.hbm, 33, rfl⟩
abbrev main_call2_c_1 : Ref sig .tc := ⟨.hbm, 34, rfl⟩
abbrev main_call2_c_2 : Ref sig .tc := ⟨.hbm, 35, rfl⟩
abbrev main_call2_v6 : Ref sig .tc := ⟨.hbm, 36, rfl⟩
abbrev main_call2_v7 : Ref sig .tc := ⟨.hbm, 37, rfl⟩
abbrev main_call2_v8 : Ref sig .tc := ⟨.hbm, 38, rfl⟩
abbrev main_call2_v9 : Ref sig .tc := ⟨.hbm, 39, rfl⟩
abbrev main_call2_v10 : Ref sig .tc := ⟨.hbm, 40, rfl⟩
abbrev main_call2_v11 : Ref sig .tc := ⟨.hbm, 41, rfl⟩
abbrev main_call2_c_3 : Ref sig .tc := ⟨.hbm, 42, rfl⟩
abbrev main_call2_v12 : Ref sig .tc := ⟨.hbm, 43, rfl⟩
abbrev main_call2_v13 : Ref sig .tc := ⟨.hbm, 44, rfl⟩
abbrev main_call2_v14 : Ref sig .tc := ⟨.hbm, 45, rfl⟩
abbrev main_call2_cst : Ref sig .tc := ⟨.hbm, 46, rfl⟩
abbrev main_call2_v15 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_c : Ref sig .tc := ⟨.hbm, 56, rfl⟩
abbrev main_v20 : Ref sig .tc := ⟨.hbm, 57, rfl⟩
abbrev main_call3_c : Ref sig .tc := ⟨.hbm, 58, rfl⟩
abbrev main_call3_v0 : Ref sig .tc := ⟨.hbm, 59, rfl⟩
abbrev main_call3_v1 : Ref sig .tc := ⟨.hbm, 60, rfl⟩
abbrev main_call3_c_0 : Ref sig .tc := ⟨.hbm, 61, rfl⟩
abbrev main_call3_v2 : Ref sig .tc := ⟨.hbm, 62, rfl⟩
abbrev main_call3_v3 : Ref sig .tc := ⟨.hbm, 63, rfl⟩
abbrev main_call3_v4 : Ref sig .tc := ⟨.hbm, 64, rfl⟩
abbrev main_call3_v5 : Ref sig .tc := ⟨.hbm, 65, rfl⟩
abbrev main_call3_c_1 : Ref sig .tc := ⟨.hbm, 66, rfl⟩
abbrev main_call3_c_2 : Ref sig .tc := ⟨.hbm, 67, rfl⟩
abbrev main_call3_v6 : Ref sig .tc := ⟨.hbm, 68, rfl⟩
abbrev main_call3_v7 : Ref sig .tc := ⟨.hbm, 69, rfl⟩
abbrev main_call3_v8 : Ref sig .tc := ⟨.hbm, 70, rfl⟩
abbrev main_call3_v9 : Ref sig .tc := ⟨.hbm, 71, rfl⟩
abbrev main_call3_v10 : Ref sig .tc := ⟨.hbm, 72, rfl⟩
abbrev main_call3_v11 : Ref sig .tc := ⟨.hbm, 73, rfl⟩
abbrev main_call3_c_3 : Ref sig .tc := ⟨.hbm, 74, rfl⟩
abbrev main_call3_v12 : Ref sig .tc := ⟨.hbm, 75, rfl⟩
abbrev main_call3_v13 : Ref sig .tc := ⟨.hbm, 76, rfl⟩
abbrev main_call3_cst : Ref sig .tc := ⟨.hbm, 77, rfl⟩
abbrev main_call3_v14 : Ref sig .tc := ⟨.hbm, 78, rfl⟩
abbrev main_v21 : Ref sig .tc := ⟨.hbm, 79, rfl⟩
abbrev main_v22 : Ref sig .tc := ⟨.hbm, 80, rfl⟩
abbrev main_v23 : Ref sig .tc := ⟨.hbm, 81, rfl⟩
abbrev main_v24 : Ref sig .tc := ⟨.hbm, 82, rfl⟩

abbrev nD : Nat := 1
abbrev τ : Topo := Topo.v7x

variable {F : FTy → Type} [FloatOps F]
-- ==== Proof.Setup.lean ====
/-
  The vocabulary of the kernel's run: the program as the launch theorem takes it, the ghost state, the arrays that the
  SparseCore call reads and writes, what each tile holds of them, and the table row that each output row is to hold.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.Regions
public import Idealize.ShloMosaic.Lib.Pointwise.Index
public import Idealize.ShloMosaic.Lib.Tactic
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

/-- The labels of the TensorCore's programs, the pallas_call's loop among them. -/
abbrev ΛP : Labels := Pipeline.Sig Λ₀ (Fin 1) fun p => (pcfgs (F := F) p).Adm
/-- The SparseCore calls of `@main`: one, on 2 SparseCores of 16 tiles. -/
abbrev K : SparseCore.Cfg τ sig (ΛP (F := F)) 1 := sc (F := F)
theorem nSub_zero : (K (F := F)).nSub 0 = 16 := rfl
theorem nCore_zero : (K (F := F)).nCore 0 = 2 := rfl
/-- The bodies that the calls name. -/
abbrev D [FloatOps F] [Named F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The handshake semaphores are distinct and are the launch's own; a tile's scratch is no one else's. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pallas_call's staging rounds, the transfers' counters -/

abbrev UH : Type := URounds (GSem nD τ sig) ℕ
abbrev UP : Type := URounds (GSem nD τ sig) Unit
abbrev UU : Type := UH × (UP × Counters)

local notation "𝕄" => MT nD τ sig (HIx 1) (Elt F) ℕ UU ℕ

/-- The handshakes' rounds: the left factor. -/
abbrev EH : Emb UH (MT nD τ sig (HIx 1) (Elt F) ℕ UU ℕ) := embL
/-- The staging cells' rounds: the left half of the right factor. -/
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb
instance EP_landsIn : (EP : Emb UP 𝕄).LandsIn (upEmb : UEmb _ 𝕄) := by unfold EP; infer_instance

/-! ## The arrays of the SparseCore call -/

/-- The row numbers, flattened: the call's second operand. -/
abbrev iLoc (d : Dev nD) : Loc nD τ sig := (SparseCore.T d).loc main_v0
/-- The table of rows: the call's first operand. -/
abbrev xLoc (d : Dev nD) : Loc nD τ sig := (SparseCore.T d).loc main_arg2
/-- The gathered rows: the call's result. -/
abbrev oLoc (d : Dev nD) : Loc nD τ sig := (SparseCore.T d).loc main_v1

/-- Tile `(c, s)`'s number, as the kernel counts it: twice the subcore and the core. -/
def tileNo (c : Fin 2) (s : Fin 16) : Fin 32 := ⟨2 * s.val + c.val, by omega⟩

theorem idiv : 32 ∣ S4096.size 0 := ⟨128, rfl⟩
theorem odiv : 32 ∣ S4096x128.size 0 := ⟨128, rfl⟩
/-- Tile `w`'s 128 row numbers. -/
abbrev iBlk (w : Fin 32) : Rect S4096 := Rect.part (s := S4096) (a₀ := 0) idiv w
/-- Tile `w`'s 128 rows of the result. -/
abbrev oBlk (w : Fin 32) : Rect S4096x128 := Rect.part (s := S4096x128) (a₀ := 0) odiv w
/-- Tile `w`'s share of the table: every tile reads any of its rows. -/
abbrev xq (w : Fin 32) : PosShare TreeShare := pieceOf fullShare 32 (by decide) w

/-- The rows that the call is to gather: row `r` is the table's row number `ix r`. -/
def gath (ix : S4096.Idx → BitVec 32) (tb : S100001x128.Idx → F .f32) : S4096x128.Idx → F .f32 :=
  fun j => tb (ix2 ⟨(ix (ix1 (j 0))).toNat % 100001, Nat.mod_lt _ (by decide)⟩ (j 1))

/-- Every row number names a row of the table. -/
def InRows (vi : (d : Dev nD) → Buf (Elt F) (iLoc d)) : Prop := ∀ (d : Dev nD) (j : S4096.Idx), (vi d j).toNat < 100001

section Pay

variable (vi : (d : Dev nD) → Buf (Elt F) (iLoc d)) (tb : (d : Dev nD) → Buf (Elt F) (xLoc d)) (vo : (d : Dev nD) → Buf (Elt F) (oLoc d))

/-- What tile `w` holds: its row numbers, its share of the table, its rows of the result at contents `f`. -/
abbrev tileRes (d : Dev nD) (w : Fin 32) (f : Buf (Elt F) (oLoc d)) : sProp 𝕄 :=
  iprop((iLoc d ↦[(iBlk w).set]{fullShare} vi d) ∗ (xLoc d ↦{xq w} tb d) ∗ (oLoc d ↦[(oBlk w).set]{fullShare} f))

/-- What the handshakes carry: each tile's resources, the result's rows as the call found them on the way in and as
    gathered on the way out; to a SparseCore its sixteen tiles' together. -/
def P : (K (F := F)).Pay (nD := nD) (Val := Elt F) (Name := ℕ) (U := UU) where
  st := fun q d c => match q with
    | 0 => bigSep Finset.univ fun i : Fin ((K (F := F)).nSub 0) => tileRes vi tb d (tileNo (Fin.cast nCore_zero c) (Fin.cast nSub_zero i)) (vo d)
  dn := fun q d c => match q with
    | 0 => bigSep Finset.univ fun i : Fin ((K (F := F)).nSub 0) => tileRes vi tb d (tileNo (Fin.cast nCore_zero c) (Fin.cast nSub_zero i)) (gath (vi d) (tb d))
  go := fun q d c i => match q with
    | 0 => tileRes vi tb d (tileNo (Fin.cast nCore_zero c) (Fin.cast nSub_zero i)) (vo d)
  td := fun q d c i => match q with
    | 0 => tileRes vi tb d (tileNo (Fin.cast nCore_zero c) (Fin.cast nSub_zero i)) (gath (vi d) (tb d))
  x := fun _ _ => iprop(emp)

instance P_storable : (P (F := F) vi tb vo).IsStorable where
  st q d c := match q with
    | 0 => (inferInstance : BI.Storable (upEmb : UEmb _ 𝕄) (bigSep Finset.univ fun i : Fin ((K (F := F)).nSub 0) =>
        tileRes vi tb d (tileNo (Fin.cast nCore_zero c) (Fin.cast nSub_zero i)) (vo d)))
  dn q d c := match q with
    | 0 => (inferInstance : BI.Storable (upEmb : UEmb _ 𝕄) (bigSep Finset.univ fun i : Fin ((K (F := F)).nSub 0) =>
        tileRes vi tb d (tileNo (Fin.cast nCore_zero c) (Fin.cast nSub_zero i)) (gath (vi d) (tb d))))
  go q d c i := match q with
    | 0 => (inferInstance : BI.Storable (upEmb : UEmb _ 𝕄) (tileRes vi tb d (tileNo (Fin.cast nCore_zero c) (Fin.cast nSub_zero i)) (vo d)))
  td q d c i := match q with
    | 0 => (inferInstance : BI.Storable (upEmb : UEmb _ 𝕄) (tileRes vi tb d (tileNo (Fin.cast nCore_zero c) (Fin.cast nSub_zero i)) (gath (vi d) (tb d))))

/-- A SparseCore's operands are its tiles' together, and its tiles' results together are its own. -/
theorem vecSplit : (K (F := F)).VecSplit' (P vi tb vo) 0 := by
  intro d c
  show (bigSep Finset.univ fun i : Fin ((K (F := F)).nSub 0) => tileRes vi tb d (tileNo (Fin.cast nCore_zero c) (Fin.cast nSub_zero i)) (vo d))
    ⊢ |={Set.univ}=> iprop((bigSep Finset.univ fun i : Fin ((K (F := F)).nSub 0) => tileRes vi tb d (tileNo (Fin.cast nCore_zero c) (Fin.cast nSub_zero i)) (vo d))
      ∗ ((bigSep Finset.univ fun i : Fin ((K (F := F)).nSub 0) => tileRes vi tb d (tileNo (Fin.cast nCore_zero c) (Fin.cast nSub_zero i)) (gath (vi d) (tb d)))
          -∗ bigSep Finset.univ fun i : Fin ((K (F := F)).nSub 0) => tileRes vi tb d (tileNo (Fin.cast nCore_zero c) (Fin.cast nSub_zero i)) (gath (vi d) (tb d))))
  iintro H; imodintro
  isplitl [H]; · iexact H
  iintro H; iexact H

end Pay

/-! ## The whole arrays, tile by tile -/

/-- The tiles of both SparseCores, counted by `tileNo`, are all 32. -/
def tileEquiv : Fin 2 × Fin 16 ≃ Fin 32 where
  toFun p := tileNo p.1 p.2
  invFun w := (⟨w.val % 2, by omega⟩, ⟨w.val / 2, by omega⟩)
  left_inv p := by
    obtain ⟨c, s⟩ := p
    simp only [tileNo, Prod.mk.injEq, Fin.ext_iff]; omega
  right_inv w := by simp only [tileNo, Fin.ext_iff]; omega

/-- The call's three arrays held whole are every tile's resources at once. -/
theorem arrays_tiles (vi : (d : Dev nD) → Buf (Elt F) (iLoc d)) (tb : (d : Dev nD) → Buf (Elt F) (xLoc d)) (d : Dev nD) (f : Buf (Elt F) (oLoc d)) :
    (iprop((iLoc d ↦{fullShare} vi d) ∗ (xLoc d ↦{fullShare} tb d) ∗ (oLoc d ↦{fullShare} f)) : sProp 𝕄)
      = bigSep Finset.univ fun c : Fin ((K (F := F)).nCore 0) => bigSep Finset.univ fun i : Fin ((K (F := F)).nSub 0) =>
          tileRes vi tb d (tileNo (Fin.cast nCore_zero c) (Fin.cast nSub_zero i)) f := by
  have hi : (iLoc d ↦{fullShare} vi d : sProp 𝕄) = bigSep Finset.univ fun w : Fin 32 => iLoc d ↦[(iBlk w).set]{fullShare} vi d := by
    rw [← pointsTo_biUnion Finset.univ (ℓ := iLoc d) (fun w => (iBlk w).set) fun w _ w' _ h => Rect.part_disjoint idiv h]
    exact congrArg (fun I => (iLoc d ↦[I]{fullShare} vi d : sProp 𝕄)) (Rect.biUnion_part idiv).symm
  have ho : (oLoc d ↦{fullShare} f : sProp 𝕄) = bigSep Finset.univ fun w : Fin 32 => oLoc d ↦[(oBlk w).set]{fullShare} f := by
    rw [← pointsTo_biUnion Finset.univ (ℓ := oLoc d) (fun w => (oBlk w).set) fun w _ w' _ h => Rect.part_disjoint odiv h]
    exact congrArg (fun I => (oLoc d ↦[I]{fullShare} f : sProp 𝕄)) (Rect.biUnion_part odiv).symm
  have hx : (xLoc d ↦{fullShare} tb d : sProp 𝕄) = bigSep Finset.univ fun w : Fin 32 => xLoc d ↦{xq w} tb d :=
    pointsTo_piecesOf Finset.univ (tb d) (by decide) fullShare
  rw [hi, hx, ho, ← bigSep_sep', ← bigSep_sep', bigSep_univ_equiv tileEquiv, bigSep_univ_prod]
  rfl

end Cert.Proof.Run

end
-- ==== Proof.Gather.lean ====
/-
  One tile of the SparseCore call: it fetches its 128 row numbers, gathers those rows of the table by one indirect
  copy, and writes them out as its 128 rows of the result. The run is stated once, at a symbolic tile.
-/
module

public import proofs.«01_k».proof.Proof.Setup
public import Idealize.ShloMosaic.Lib.Pipeline.ValueKit.Geometry

@[expose] public section

noncomputable section

namespace Cert.Proof.Run

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F] [Named F]

local notation "𝕄" => MT nD τ sig (HIx 1) (Elt F) ℕ UU ℕ

local notation "iV" => (Memref.whole Cert.KernelIdeal.main_v0_scv : Memref Cert.KernelIdeal.sig Kind.scVector Space.hbm Cert.KernelIdeal.S4096 EltTy.i32)
local notation "xV" => (Memref.whole Cert.KernelIdeal.main_arg2_scv : Memref Cert.KernelIdeal.sig Kind.scVector Space.hbm Cert.KernelIdeal.S100001x128 EltTy.f32)
local notation "oV" => (Memref.whole Cert.KernelIdeal.main_v1_scv : Memref Cert.KernelIdeal.sig Kind.scVector Space.hbm Cert.KernelIdeal.S4096x128 EltTy.f32)
local notation "sV" => (Memref.whole Cert.KernelIdeal.cc0_scratch0 : Memref Cert.KernelIdeal.sig Kind.scVector Space.vmem Cert.KernelIdeal.S128 EltTy.i32)
local notation "rV" => (Memref.whole Cert.KernelIdeal.cc0_scratch1 : Memref Cert.KernelIdeal.sig Kind.scVector Space.vmem Cert.KernelIdeal.S128x128 EltTy.f32)

variable (vi : (d : Dev nD) → Buf (Elt F) (iLoc d)) (tb : (d : Dev nD) → Buf (Elt F) (xLoc d)) (vo : (d : Dev nD) → Buf (Elt F) (oLoc d))
variable (d : Dev nD) (L : grid0.Coords)

/-! ## The tile, its blocks as the kernel addresses them, its scratch -/

abbrev cV (L : grid0.Coords) : Fin τ.nSC := (L 0).castLE hcore0
abbrev jV (L : grid0.Coords) : Fin τ.nSub := (L 1).castLE hsub0
theorem bound_zero : grid0.bound 0 = 2 := rfl
theorem bound_one : grid0.bound 1 = 16 := rfl
/-- The tile's number. -/
abbrev wL (L : grid0.Coords) : Fin 32 := tileNo (Fin.cast bound_zero (L 0)) (Fin.cast bound_one (L 1))

abbrev iRect (L : grid0.Coords) : Rect S4096 := Rect.unit (s := S4096) (k0_off1 L) S128.size (k0_off1_inb L)
abbrev oRect (L : grid0.Coords) : Rect S4096x128 := Rect.unit (s := S4096x128) (k0_off2 L) S128x128.size (k0_off2_inb L)
abbrev iK (L : grid0.Coords) : Memref sig .scVector .hbm S128 .i32 := (iV).slice (iRect L) (fun _ => rfl)
abbrev oK (L : grid0.Coords) : Memref sig .scVector .hbm S128x128 .f32 := (oV).slice (oRect L) (fun _ => rfl)
abbrev xK : Memref sig .scVector .hbm S100001x128 .f32 := (xV).slice (Rect.unit (s := S100001x128) ![0, 0] S100001x128.size inb_S100001x128_S100001x128_0_0) (fun _ => rfl)

/-- The kernel's slice of the row numbers is the tile's block of them. -/
theorem iRect_eq : iRect L = iBlk (wL L) := by
  have hw : (wL L).val = 2 * (L 1).val + (L 0).val := rfl
  generalize wL L = w at hw
  unfold iRect iBlk Rect.part Rect.block
  congr 1 <;> funext a
  · rw [k0_off1_eq]
    match a with
    | 0 => simp [Shape.partIx, Shape.partSize, hw]; omega
  · match a with
    | 0 => simp [Shape.partSize]
/-- The kernel's slice of the result is the tile's block of it. -/
theorem oRect_eq : oRect L = oBlk (wL L) := by
  have hw : (wL L).val = 2 * (L 1).val + (L 0).val := rfl
  generalize wL L = w at hw
  unfold oRect oBlk Rect.part Rect.block
  congr 1 <;> funext a
  · rw [k0_off2_eq]
    match a with
    | 0 => simp [Shape.partIx, Shape.partSize, hw]; omega
    | 1 => simp [Shape.partIx, Shape.partSize]
  · match a with
    | 0 => simp [Shape.partSize]
    | 1 => simp [Shape.partSize]

theorem set_iK : (iK L).view.set = (iBlk (wL L)).set := by
  show ((View.whole (main_v0_scv : Ref sig .scVector)).slice (iRect L)).set = _
  rw [View.set_slice, iRect_eq]; exact Finset.map_refl
theorem set_oK : (oK L).view.set = (oBlk (wL L)).set := by
  show ((View.whole (main_v1_scv : Ref sig .scVector)).slice (oRect L)).set = _
  rw [View.set_slice, oRect_eq]; exact Finset.map_refl

theorem pts_iK (f : Buf (Elt F) (iLoc d)) :
    ((iK L).view.loc (V d (cV L) (jV L)) ↦[(iK L).view.set]{fullShare} f : sProp 𝕄) = iLoc d ↦[(iBlk (wL L)).set]{fullShare} f := by
  rw [set_iK]
theorem pts_oK (f : Buf (Elt F) (oLoc d)) :
    ((oK L).view.loc (V d (cV L) (jV L)) ↦[(oK L).view.set]{fullShare} f : sProp 𝕄) = oLoc d ↦[(oBlk (wL L)).set]{fullShare} f := by
  rw [set_oK]
theorem pts_xV (q : PosShare TreeShare) (f : Buf (Elt F) (xLoc d)) :
    ((xV).view.loc (V d (cV L) (jV L)) ↦{q} f : sProp 𝕄) = xLoc d ↦{q} f := rfl
theorem pts_sV (f : Buf (Elt F) ((V d (cV L) (jV L)).loc cc0_scratch0)) :
    ((sV).view.loc (V d (cV L) (jV L)) ↦{fullShare} f : sProp 𝕄) = (V d (cV L) (jV L)).loc cc0_scratch0 ↦{fullShare} f := rfl
theorem pts_rV (f : Buf (Elt F) ((V d (cV L) (jV L)).loc cc0_scratch1)) :
    ((rV).view.loc (V d (cV L) (jV L)) ↦{fullShare} f : sProp 𝕄) = (V d (cV L) (jV L)).loc cc0_scratch1 ↦{fullShare} f := rfl

/-- The tile's three DMA semaphores: the fetch's, the gather's, the write-out's. -/
abbrev cFetch (d : Dev nD) (c : Fin τ.nSC) (i : Fin τ.nSub) : GSem nD τ sig := (V d c i, .dma cc0_scoped0.sem)
abbrev cRows (d : Dev nD) (c : Fin τ.nSC) (i : Fin τ.nSub) : GSem nD τ sig := (V d c i, .dma cc0_scratch2.sem)
abbrev cOut (d : Dev nD) (c : Fin τ.nSC) (i : Fin τ.nSub) : GSem nD τ sig := (V d c i, .dma cc0_scoped1.sem)

/-- They are among the tile's own semaphores: those three at zero and the rest. -/
theorem ownSems0_V :
    (ownSems0 (V d (cV L) (jV L)) : sProp 𝕄)
      = iprop(semVal (cFetch d (cV L) (jV L)) 0 ∗ semVal (cRows d (cV L) (jV L)) 0 ∗ semVal (cOut d (cV L) (jV L)) 0
          ∗ bigSep ((((ownCells (V d (cV L) (jV L))).erase (cFetch d (cV L) (jV L))).erase (cRows d (cV L) (jV L))).erase (cOut d (cV L) (jV L))) fun g => semVal g 0) := by
  unfold SparseCore.Cfg.ownSems0
  rw [SparseCore.bigSep_erase' ((mem_ownCells (g := cFetch d (cV L) (jV L))).mpr ⟨rfl, by
      show (SemLoc.dma cc0_scoped0.sem : SemLoc sig).isScoped .scVector = true; decide⟩),
    SparseCore.bigSep_erase' (Finset.mem_erase.mpr ⟨by simp [cFetch, cRows]; decide, (mem_ownCells (g := cRows d (cV L) (jV L))).mpr ⟨rfl, by
      show (SemLoc.dma cc0_scratch2.sem : SemLoc sig).isScoped .scVector = true; decide⟩⟩),
    SparseCore.bigSep_erase' (Finset.mem_erase.mpr ⟨by simp [cRows, cOut]; decide, Finset.mem_erase.mpr ⟨by simp [cFetch, cOut]; decide,
      (mem_ownCells (g := cOut d (cV L) (jV L))).mpr ⟨rfl, by show (SemLoc.dma cc0_scoped1.sem : SemLoc sig).isScoped .scVector = true; decide⟩⟩⟩)]

/-- The two scratch buffers are among the tile's own: those two at some contents and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-! ## What is fetched and what is gathered -/

/-- The tile's row number `k`, read through its slice of the row numbers. -/
theorem read_iK (f : Buf (Elt F) (iLoc d)) (k : S128.Idx) : (iK L).view.read (Elt F) f k = f ((iRect L).emb k) :=
  (View.read_apply _ _).trans (cast_eq _ _)

/-- The row numbers fetched into the scratch are in range. -/
theorem fetched_inb (hv : InRows vi) (fs : Buf (Elt F) ((V d (cV L) (jV L)).loc cc0_scratch0)) (pay : S128.Idx → Elt F .i32)
    (hpay : pay = (iK L).view.read (Elt F) (vi d)) :
    ∀ x, ((sV).view.read (Elt F) (View.write (Elt F) (sV).view fs pay Finset.univ) x).toNat < S100001x128.size gathers_S100001x128_S128x128.axis := by
  subst hpay; intro x
  rw [View.write_whole_univ]
  simp only [Memref.view_whole, View.read_whole]
  rw [read_iK]
  exact hv d _

/-- The credit that the rows' copies return is the row buffer's whole. -/
theorem rows_credit : ∀ h : S100001x128.Gathers 0 S128x128, ∑ j, ((rV).slice (S128x128.rowRect h.axis' j) (S128x128.stride_rowRect h.axis' j)).view.dmaCredit
    = (rV).view.dmaCredit := by decide

/-- The row number that the tile's list names for its row `k`. -/
theorem list_row (hv : InRows vi) (fs : Buf (Elt F) ((V d (cV L) (jV L)).loc cc0_scratch0)) (k : S128x128.Idx)
    (hn : S128.numel = S128x128.size gathers_S100001x128_S128x128.axis')
    (hin : ∀ x, ((sV).view.read (Elt F) (View.write (Elt F) (sV).view fs ((iK L).view.read (Elt F) (vi d)) Finset.univ) x).toNat < S100001x128.size gathers_S100001x128_S128x128.axis) :
    (SparseCore.rows ((sV).view.read (Elt F) (View.write (Elt F) (sV).view fs ((iK L).view.read (Elt F) (vi d)) Finset.univ)) hn hin
      (k gathers_S100001x128_S128x128.axis')).val = (vi d (ix1 ((oRect L).emb k 0))).toNat := by
  have e : (sV).view.read (Elt F) (View.write (Elt F) (sV).view fs ((iK L).view.read (Elt F) (vi d)) Finset.univ) = (iK L).view.read (Elt F) (vi d) := by
    rw [View.write_whole_univ]; rfl
  show ((sV).view.read (Elt F) (View.write (Elt F) (sV).view fs ((iK L).view.read (Elt F) (vi d)) Finset.univ)
    (S128.rowMajor.symm ((k gathers_S100001x128_S128x128.axis').cast hn.symm))).toNat = _
  rw [e, read_iK]
  refine congrArg (fun j => (vi d j).toNat) (funext fun a => Fin.ext ?_)
  match a with
  | 0 =>
    have hk : (S128.rowMajor.symm ((k gathers_S100001x128_S128x128.axis').cast hn.symm) 0).val = (k 0).val := by
      rw [← Shape.rowMajor_val_one, Equiv.apply_symm_apply]; rfl
    rw [ValueKit.rect_emb_unit_val, hk]
    show k0_off1 L 0 + (k 0).val = ((oRect L).emb k 0).val
    rw [ValueKit.rect_emb_unit_val, show k0_off1 L 0 = _ from congrFun (k0_off1_eq L) 0, show k0_off2 L 0 = _ from congrFun (k0_off2_eq L) 0]; rfl

/-- The row buffer filled whole reads back what filled it. -/
theorem read_rows (fr : Buf (Elt F) ((V d (cV L) (jV L)).loc cc0_scratch1)) (x : S128x128.Idx → Elt F .f32) :
    (rV).view.read (Elt F) (View.write (Elt F) (rV).view fr x Finset.univ) = x := by
  rw [View.write_whole_univ]; rfl

/-- What the write-out leaves in the tile's rows of the result: the gathered rows. -/
theorem written_rows (hv : InRows vi) (fs : Buf (Elt F) ((V d (cV L) (jV L)).loc cc0_scratch0)) (fr : Buf (Elt F) ((V d (cV L) (jV L)).loc cc0_scratch1))
    (hn : S128.numel = S128x128.size gathers_S100001x128_S128x128.axis')
    (hin : ∀ x, ((sV).view.read (Elt F) (View.write (Elt F) (sV).view fs ((iK L).view.read (Elt F) (vi d)) Finset.univ) x).toNat < S100001x128.size gathers_S100001x128_S128x128.axis)
    (pay : S128x128.Idx → Elt F .f32)
    (hpay : pay = (rV).view.read (Elt F) (View.write (Elt F) (rV).view fr (SparseCore.gatherPayload gathers_S100001x128_S128x128 ((xK).view.read (Elt F) (tb d))
        (SparseCore.rows ((sV).view.read (Elt F) (View.write (Elt F) (sV).view fs ((iK L).view.read (Elt F) (vi d)) Finset.univ)) hn hin)) Finset.univ))
    (i : S4096x128.Idx) (hi : i ∈ (oBlk (wL L)).set) :
    (oK L).view.writes (Elt F) (vo d) [⟨Rect.whole S128x128, pay⟩] i = gath (vi d) (tb d) i := by
  subst hpay
  rw [← set_oK] at hi
  obtain ⟨k, -, rfl⟩ := Finset.mem_map.mp hi
  have hr := congrFun (View.read_writes_whole (oK L).view (vo d) ((rV).view.read (Elt F) (View.write (Elt F) (rV).view fr
    (SparseCore.gatherPayload gathers_S100001x128_S128x128 ((xK).view.read (Elt F) (tb d))
        (SparseCore.rows ((sV).view.read (Elt F) (View.write (Elt F) (sV).view fs ((iK L).view.read (Elt F) (vi d)) Finset.univ)) hn hin)) Finset.univ))) k
  rw [View.read_apply, cast_eq] at hr
  refine (hr.trans (congrFun (read_rows d L fr _) k)).trans ?_
  unfold SparseCore.gatherPayload gath
  rw [View.read_apply, cast_eq]
  show tb d ((Rect.unit (s := S100001x128) ![0, 0] S100001x128.size inb_S100001x128_S100001x128_0_0).emb _) = tb d _
  refine congrArg (tb d) (funext fun a => Fin.ext ?_)
  rw [ValueKit.rect_emb_unit_val]
  match a with
  | 0 =>
    show 0 + (gathers_S100001x128_S128x128.idx _ k gathers_S100001x128_S128x128.axis).val = (vi d (ix1 ((oRect L).emb k 0))).toNat % 100001
    rw [Shape.Gathers.idx_axis, list_row vi d L hv fs k hn hin, Nat.zero_add, Nat.mod_eq_of_lt (hv d _)]
  | 1 =>
    show 0 + (gathers_S100001x128_S128x128.idx _ k 1).val = ((oRect L).emb k 1).val
    rw [Shape.Gathers.idx_of_ne _ _ _ _ (by decide), ValueKit.rect_emb_unit_val, show k0_off2 L 1 = 0 from congrFun (k0_off2_eq L) 1]; rfl

set_option maxHeartbeats 4000000 in
/-- The tile's run: from its row numbers, its share of the table, its rows of the result at any contents and its own
    scratch and semaphores, it ends with the same, its rows of the result the gathered ones. -/
theorem tile_body (hF : (K (F := F)).Facts) (hv : InRows vi) (O : CellTallies nD τ sig (HIx 1)) (W : Waits sig (HIx 1)) (hO : ∀ g, O g none = 0) :
    iprop(levAts (K (F := F)).L (K (F := F)).lev ∗ emp
        ∗ tileRes vi tb d (wL L) (vo d)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather_body L xV (Memref.isWhole_whole _) iV (Memref.isWhole_whole _) oV (Memref.isWhole_whole _)
            sV (Memref.isWhole_whole _) rV (Memref.isWhole_whole _) cc0_scratch2 cc0_scoped0 cc0_scoped1)
          fun _ => iprop(tileRes vi tb d (wL L) (gath (vi d) (tb d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_body_eq_skeleton]; unfold cc0__sc_gather_body_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iK (F := F) d L _).symm) $$ Hi
  ihave Ho' := (Entails.of_eq (pts_oK (F := F) d L _).symm) $$ Ho
  ihave Hx' := (Entails.of_eq (pts_xV (F := F) d L _ _).symm) $$ Hx
  ihave Hs' := (Entails.of_eq (pts_sV (F := F) d L _).symm) $$ Hs
  ihave Hr' := (Entails.of_eq (pts_rV (F := F) d L _).symm) $$ Hr
  sl_exec
  -- the gather: the table's share, the row buffer, the list and the semaphore go to the stream
  ihave Hxs := (pointsTo_split_subset (q := xq (wL L)) (f := tb d) (S := Finset.univ) (Finset.subset_univ (xK).view.set)).1 $$ Hx'
  icases Hxs with ⟨Hxs, Hxr⟩
  have hrs : (rV).view.set = Finset.univ := View.set_whole _
  have hss : (sV).view.set = Finset.univ := View.set_whole _
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr'
  ihave Hs'' := (Entails.of_eq (show ((sV).view.loc (V d (cV L) (jV L)) ↦{fullShare} View.write (Elt F) (sV).view fs (tile_body.sl.dma0 vi d L) Finset.univ : sProp 𝕄)
      = (sV).view.loc (V d (cV L) (jV L)) ↦[(sV).view.set]{fullShare} View.write (Elt F) (sV).view fs (tile_body.sl.dma0 vi d L) Finset.univ
      by rw [hss])) $$ Hs'
  iapply (SparseCore.wp_indirectGatherLocal countersEmb 𝒱₀ (V d (cV L) (jV L)) none (hg := gathers_S100001x128_S128x128) (default : HIx 1)
      (rV).view.dmaCredit (rows_credit _) (by decide) (fetched_inb vi d L hv fs _ rfl)) $$ [Hxs Hr'' Hs'' HsemB]
  · isplitl [Hxs]; · iexact Hxs
    isplitl [Hr'']; · iexact Hr''
    isplitl [Hs'']; · iexact Hs''
    iexact HsemB
  iintro Hfl
  sl_exec
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hxs, Hs'⟩, HsemB, HO⟩
  ihave Hx' := (pointsTo_split_subset (q := xq (wL L)) (f := tb d) (S := Finset.univ) (Finset.subset_univ (xK).view.set)).2 $$ [Hxs Hxr]; · isplitl [Hxs] <;> iassumption
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr'
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  sl_step
  isplitl [Hi' Hx' Ho']
  · isplitl [Hi']; · iapply (Entails.of_eq (pts_iK (F := F) d L _)); iexact Hi'
    isplitl [Hx']; · iexact Hx'
    iapply (Entails.of_eq ((pts_oK (F := F) d L _).trans (pointsTo_congr (written_rows vi tb vo d L hv fs fr _ _ _ rfl)))); iexact Ho'
  isplitl [Hs3 Hr3 Hbufs]
  · isplitl [Hs3]; · iexists _; iexact Hs3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The tiles' obligation to the launch -/

/-- A tile's grid coordinates. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_gather_body (coordsV c s)
          xV (Memref.isWhole_whole _) iV (Memref.isWhole_whole _) oV (Memref.isWhole_whole _)
          sV (Memref.isWhole_whole _) rV (Memref.isWhole_whole _) cc0_scratch2 cc0_scoped0 cc0_scoped1) ⟨⟩ c s := rfl

/-- A wait recorded at no call's index is one recorded at no call's index or the call's own. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every tile's task, as the launch asks for it. -/
theorem tileObl (hF : (K (F := F)).Facts) (hv : InRows vi) : (K (F := F)).TileObl (D (F := F)) 𝒱 (P vi tb vo) v₀ 0 := by
  intro d c i O W hO _ _
  simp only [show (P (F := F) vi tb vo).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body vi tb vo d (coordsV ⟨_, hci.1⟩ ⟨_, hci.2⟩) hF hv O W hO).trans (wp_mono frame _ _ fun _ => obl_post)

end Cert.Proof.Run

end
-- ==== Proof.Body.lean ====
/-
  The body of the TensorCore call, run once from its staged operands: what it leaves in the result's staging buffer.
-/
module

public import proofs.«01_k».proof.Proof.Setup
public import Idealize.ShloMosaic.Lib.Writes
public import Idealize.ShloMosaic.Lib.VecWindow
public import Idealize.ShloMosaic.Lib.Pipeline.ValueKit.Geometry

@[expose] public section

noncomputable section

namespace Cert.Proof.Run

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig (HIx 1) (Elt F) ℕ UU ℕ

/-- A memref's buffer on device `d`: its contents, and it held whole. -/
abbrev Bf (d : Dev nD) {sp : Space} {s : Shape} {e : EltTy} (M : Memref sig .tc sp s e) : Type := Buf (Elt F) (M.view.loc (d : Thread nD τ))
abbrev pt (d : Dev nD) {sp : Space} {s : Shape} {e : EltTy} (M : Memref sig .tc sp s e) (f : Bf (F := F) d M) : sProp 𝕄 :=
  M.view.loc (d : Thread nD τ) ↦{fullShare} f

/-! ## What the body computes -/

section Value

variable (E : S4096x128.Idx → F .f32) (A : S1x8x512.Idx → F .bf16) (W : S128x2048.Idx → F .bf16) (Φ : S256x2048.Idx → F .bf16)
variable (w : Fin 16 → F .f32) (s : F .f32)

/-- The running sum after the first step, the least bin value. -/
def lo : F .f32 := k1_pay3 s (w 0)
/-- The running sum after the second step, the value at floor zero. -/
def c0 : F .f32 := k1_pay4 s (w 0) (w 1)
/-- The difference between the third and the second running sum, the one step that the kernel uses. -/
def beta : F .f32 := k1_pay8 (c0 w s) (k1_pay5 s (w 0) (w 1) (w 2))
/-- The last running sum, the greatest bin value. -/
def hi : F .f32 :=
  k1_pay7 (k1_pay6 s (w 0) (w 1) (w 2) (w 3) (w 4) (w 5) (w 6) (w 7) (w 8) (w 9) (w 10)) (w 11) (w 12) (w 13) (w 14) (w 15)

/-- The rows of the gathered table that batch entry `j` owns. -/
def embRows (j : Fin 8) : S512x128.Idx → F .f32 := fun x =>
  E (ix2 ⟨512 * j.val + (x 0).val, by have h : (x 0).val < 512 := (x 0).isLt; have := j.isLt; show _ < 4096; omega⟩ ⟨(x 1).val, (x 1).isLt⟩)
/-- The row of attention weights of batch entry `j`. -/
def attnRow (j : Fin 8) : S1x1x512.Idx → F .bf16 := fun x => A (ix3 0 j ⟨(x 2).val, (x 2).isLt⟩)

/-- The row that the body stores for batch entry `j`: the attention-weighted bin values. -/
def pooledRow (j : Fin 8) : S1x2048.Idx → F .f32 :=
  k1_pay12 (lo w s) (c0 w s) (hi w s) (beta w s) (k1_pay9 W) (embRows E j) (attnRow A j)

/-- The scratch after the eight stores. -/
def pooled : S8x2048.Idx → F .f32 := fun p => pooledRow E A W w s ⟨(p 0).val, (p 0).isLt⟩ (ix2 0 ⟨(p 1).val, (p 1).isLt⟩)

/-- The result block. -/
def outBlk : S8x256.Idx → F .f32 := k1_pay2 (pooled E A W w s) Φ

/-- Row `j` of the scratch, at a place of the rectangle that the store of batch entry `j` writes. -/
theorem pooled_at (j : Fin 8) (o : BitVec 32) (ho : o = BitVec.ofNat 32 j.val) (inb) (x : S1x2048.Idx) :
    pooled E A W w s ((Rect.unit (s := S8x2048) (k1_off1 (grid1.coords t1_0) o) S1x2048.size inb).emb x) = pooledRow E A W w s j x := by
  subst ho
  have he : k1_off1 (grid1.coords t1_0) (BitVec.ofNat 32 j.val) = ![j.val, 0] := by
    rw [k1_off1_eq, show ((grid1.coords t1_0) 0).val = 0 from by decide]; simp
  have e0 : ((Rect.unit (s := S8x2048) (k1_off1 (grid1.coords t1_0) (BitVec.ofNat 32 j.val)) S1x2048.size inb).emb x 0).val = j.val := by
    rw [ValueKit.rect_emb_unit_val, show k1_off1 (grid1.coords t1_0) (BitVec.ofNat 32 j.val) 0 = j.val from congrFun he 0]
    have h : (x 0).val < 1 := (x 0).isLt
    show j.val + (x 0).val = j.val
    omega
  have e1 : ((Rect.unit (s := S8x2048) (k1_off1 (grid1.coords t1_0) (BitVec.ofNat 32 j.val)) S1x2048.size inb).emb x 1).val = (x 1).val := by
    rw [ValueKit.rect_emb_unit_val, show k1_off1 (grid1.coords t1_0) (BitVec.ofNat 32 j.val) 1 = 0 from congrFun he 1]
    show 0 + (x 1).val = (x 1).val
    omega
  unfold pooled
  refine congr (congrArg (pooledRow E A W w s) (Fin.ext e0)) ?_
  funext a
  match a with
  | ⟨0, _⟩ => exact Fin.ext (by have h : (x 0).val < 1 := (x 0).isLt; show 0 = (x 0).val; omega)
  | ⟨1, _⟩ => exact Fin.ext e1

end Value

/-! ## What the loads read -/

section Loads

variable {sg : RefSig} {κ : Kind} {sp : Space}

/-- A scalar load of the bin weights reads one of the sixteen. -/
theorem word_read (v : View sg κ sp S16 .f32) (f : v.ty.Contents (Elt F)) (inb : ∀ k : Fin 16, ∀ a, (![k.val] : Fin 1 → ℕ) a + S1.size a ≤ S16.size a) (h : 0 < S1.numel) :
    (fun k : Fin 16 => v.readAt (Elt F) (Rect.unit (s := S16) ![k.val] S1.size (inb k)).toLoadRect f (Shape.Idx.first h)) = fun k => v.read (Elt F) f (ix1 k) := by
  funext k
  refine congrArg (v.read (Elt F) f) (funext fun a => ?_)
  match a with
  | ⟨0, _⟩ => exact Fin.ext (by show k.val + 1 * 0 = k.val; omega)

/-- The scalar load of the start value. -/
theorem start_read (v : View sg κ sp S1 .f32) (f : v.ty.Contents (Elt F)) (inb : ∀ a, (![0] : Fin 1 → ℕ) a + S1.size a ≤ S1.size a) (h : 0 < S1.numel) :
    v.readAt (Elt F) (Rect.unit (s := S1) ![0] S1.size inb).toLoadRect f (Shape.Idx.first h) = v.read (Elt F) f (ix1 0) := by
  refine congrArg (v.read (Elt F) f) (funext fun a => ?_)
  match a with
  | ⟨0, _⟩ => rfl

/-- The load of 512 rows from row `512 * j` on. -/
theorem rows_read (v : View sg κ sp S4096x128 .f32) (f : v.ty.Contents (Elt F)) (j : Fin 8) (n : ℕ) (hn : n = 512 * j.val) (inb : ∀ a, (![n, 0] : Fin 2 → ℕ) a + S512x128.size a ≤ S4096x128.size a) :
    v.readAt (Elt F) (Rect.unit (s := S4096x128) ![n, 0] S512x128.size inb).toLoadRect f = embRows (v.read (Elt F) f) j := by
  subst hn
  funext x
  refine congrArg (v.read (Elt F) f) (funext fun a => ?_)
  match a with
  | ⟨0, _⟩ => exact Fin.ext (by show 512 * j.val + 1 * (x 0).val = 512 * j.val + (x 0).val; omega)
  | ⟨1, _⟩ => exact Fin.ext (by show 0 + 1 * (x 1).val = (x 1).val; omega)

/-- The load of one row of attention weights. -/
theorem attn_read (v : View sg κ sp S1x8x512 .bf16) (f : v.ty.Contents (Elt F)) (j : Fin 8) (n : ℕ) (hn : n = j.val) (inb : ∀ a, (![0, n, 0] : Fin 3 → ℕ) a + S1x1x512.size a ≤ S1x8x512.size a) :
    v.readAt (Elt F) (Rect.unit (s := S1x8x512) ![0, n, 0] S1x1x512.size inb).toLoadRect f = attnRow (v.read (Elt F) f) j := by
  subst hn
  funext x
  refine congrArg (v.read (Elt F) f) (funext fun a => ?_)
  match a with
  | ⟨0, _⟩ => exact Fin.ext (by have h : (x 0).val < 1 := (x 0).isLt; show 0 + 1 * (x 0).val = 0; omega)
  | ⟨1, _⟩ => exact Fin.ext (by have h : (x 1).val < 1 := (x 1).isLt; show j.val + 1 * (x 1).val = j.val; omega)
  | ⟨2, _⟩ => exact Fin.ext (by show 0 + 1 * (x 2).val = (x 2).val; omega)

end Loads

/-! ## The run -/

theorem cond1 : k1_cond1 (grid1.coords t1_0) = 1#1 := by decide

/-- From every operand held whole, the body runs to its return with its operands unchanged and the result at `outBlk` of
    what the operands hold. -/
theorem bodyRun (d : Dev nD)
    (M1 : Memref sig .tc .vmem S4096x128 .f32) (h1 : M1.IsWhole) (M2 : Memref sig .tc .vmem S1x8x512 .bf16) (h2 : M2.IsWhole)
    (M3 : Memref sig .tc .vmem S128x2048 .bf16) (h3 : M3.IsWhole) (M4 : Memref sig .tc .vmem S256x2048 .bf16) (h4 : M4.IsWhole)
    (M5 : Memref sig .tc .smem S16 .f32) (h5 : M5.IsWhole) (M6 : Memref sig .tc .smem S1 .f32) (h6 : M6.IsWhole)
    (M7 : Memref sig .tc .vmem S8x256 .f32) (h7 : M7.IsWhole) (M8 : Memref sig .tc .vmem S8x2048 .f32) (h8 : M8.IsWhole)
    (f1 : Bf (F := F) d M1) (f2 : Bf (F := F) d M2) (f3 : Bf (F := F) d M3) (f4 : Bf (F := F) d M4)
    (f5 : Bf (F := F) d M5) (f6 : Bf (F := F) d M6) (f7 : Bf (F := F) d M7) (f8 : Bf (F := F) d M8) (Q : PUnit → sProp 𝕄) :
    iprop(pt d M1 f1 ∗ pt d M2 f2 ∗ pt d M3 f3 ∗ pt d M4 f4 ∗ pt d M5 f5 ∗ pt d M6 f6 ∗ pt d M7 f7 ∗ pt d M8 f8
      ∗ (iprop(pt d M1 f1 ∗ pt d M2 f2 ∗ pt d M3 f3 ∗ pt d M4 f4 ∗ pt d M5 f5 ∗ pt d M6 f6
          ∗ (∃ g : Bf (F := F) d M7, ⌜M7.view.read (Elt F) g = outBlk (M1.view.read (Elt F) f1) (M2.view.read (Elt F) f2) (M3.view.read (Elt F) f3) (M4.view.read (Elt F) f4)
                (fun k => M5.view.read (Elt F) f5 (ix1 k)) (M6.view.read (Elt F) f6 (ix1 0))⌝ ∗ pt d M7 g)
          ∗ (∃ g, pt d M8 g)) -∗ Q ⟨⟩))
    ⊢ wp frame (wpE (defs₀ (F := F)) 𝒱₀ d none) Set.univ
        (cc1__tc_body (grid1.coords t1_0) M1 h1 M2 h2 M3 h3 M4 h4 M5 h5 M6 h6 M7 h7 M8 h8) Q := by
  have hc := cond1
  iintro ⟨H1, H2, H3, H4, H5, H6, H7, H8, Hk⟩
  sl_exec_parts!
  sl_step
  have hw := word_read (F := F) M5.view f5 (fun k a => by have := k.isLt; match a with | ⟨0, _⟩ => show k.val + 1 ≤ 16; omega) (by decide)
  have hs := start_read (F := F) M6.view f6 inb_S1_S1_0 (by decide)
  have e3 : bodyRun.sl.v3 d M5 M6 f5 f6 = lo (fun k => M5.view.read (Elt F) f5 (ix1 k)) (M6.view.read (Elt F) f6 (ix1 0)) := by
    rw [← hw, ← hs]; rfl
  have e6 : bodyRun.sl.v6 d M5 M6 f5 f6 = c0 (fun k => M5.view.read (Elt F) f5 (ix1 k)) (M6.view.read (Elt F) f6 (ix1 0)) := by
    rw [← hw, ← hs]; rfl
  have e17 : bodyRun.sl.r_17 d M5 M6 f5 f6 = hi (fun k => M5.view.read (Elt F) f5 (ix1 k)) (M6.view.read (Elt F) f6 (ix1 0)) := by
    rw [← hw, ← hs]; rfl
  have e18 : bodyRun.sl.r_18 d M5 M6 f5 f6 = beta (fun k => M5.view.read (Elt F) f5 (ix1 k)) (M6.view.read (Elt F) f6 (ix1 0)) := by
    rw [← hw, ← hs]; rfl
  have e19 : bodyRun.sl.r_19 d M3 f3 = k1_pay9 (M3.view.read (Elt F) f3) := congrArg k1_pay9 (View.readAt_full M3.view f3 _)
  -- the row that each of the eight stores writes
  have row (j : Fin 8) (n : ℕ) (hn : n = 512 * j.val) (i1) (k : ℕ) (hk : k = j.val) (i2) :
      k1_pay12 (bodyRun.sl.v3 d M5 M6 f5 f6) (bodyRun.sl.v6 d M5 M6 f5 f6) (bodyRun.sl.r_17 d M5 M6 f5 f6) (bodyRun.sl.r_18 d M5 M6 f5 f6) (bodyRun.sl.r_19 d M3 f3)
        (M1.view.readAt (Elt F) (Rect.unit (s := S4096x128) ![n, 0] S512x128.size i1).toLoadRect f1) (M2.view.readAt (Elt F) (Rect.unit (s := S1x8x512) ![0, k, 0] S1x1x512.size i2).toLoadRect f2)
        = pooledRow (M1.view.read (Elt F) f1) (M2.view.read (Elt F) f2) (M3.view.read (Elt F) f3) (fun k => M5.view.read (Elt F) f5 (ix1 k)) (M6.view.read (Elt F) f6 (ix1 0)) j := by
    rw [e3, e6, e17, e18, e19, rows_read M1.view f1 j n hn i1, attn_read M2.view f2 j k hk i2]; rfl
  have hS : ∀ f, M8.view.read (Elt F) (M8.view.writes (Elt F) f (bodyRun.sl.H8_8 d M1 M2 M3 M5 M6 f1 f2 f3 f5 f6))
     = pooled (M1.view.read (Elt F) f1) (M2.view.read (Elt F) f2) (M3.view.read (Elt F) f3) (fun k => M5.view.read (Elt F) f5 (ix1 k)) (M6.view.read (Elt F) f6 (ix1 0)) := by
    intro f
    funext y
    refine View.read_writes_apply_of_pieces _ _ _ _ ?_ _ ?_
    · unfold bodyRun.sl.H8_8 bodyRun.sl.H8_6 bodyRun.sl.H8_5 bodyRun.sl.H8_3 bodyRun.sl.H8_2
      simp only [List.forall_mem_cons]
      exact ⟨fun x => (congrFun (row 7 3584 rfl _ 7 rfl _) x).trans (pooled_at _ _ _ _ _ 7 _ rfl _ x).symm,
        fun x => (congrFun (row 6 3072 rfl _ 6 rfl _) x).trans (pooled_at _ _ _ _ _ 6 _ rfl _ x).symm,
        fun x => (congrFun (row 5 2560 rfl _ 5 rfl _) x).trans (pooled_at _ _ _ _ _ 5 _ rfl _ x).symm,
        fun x => (congrFun (row 4 2048 rfl _ 4 rfl _) x).trans (pooled_at _ _ _ _ _ 4 _ rfl _ x).symm,
        fun x => (congrFun (row 3 1536 rfl _ 3 rfl _) x).trans (pooled_at _ _ _ _ _ 3 _ rfl _ x).symm,
        fun x => (congrFun (row 2 1024 rfl _ 2 rfl _) x).trans (pooled_at _ _ _ _ _ 2 _ rfl _ x).symm,
        fun x => (congrFun (row 1 512 rfl _ 1 rfl _) x).trans (pooled_at _ _ _ _ _ 1 _ rfl _ x).symm,
        fun x => (congrFun (row 0 0 rfl _ 0 rfl _) x).trans (pooled_at _ _ _ _ _ 0 _ rfl _ x).symm,
        fun _ h => absurd h List.not_mem_nil⟩
    · exact View.cover_of_tiled (s := S8x2048) _ S1x2048.size rfl y
  iapply Hk
  isplitl [H1]; · iexact H1
  isplitl [H2]; · iexact H2
  isplitl [H3]; · iexact H3
  isplitl [H4]; · iexact H4
  isplitl [H5]; · iexact H5
  isplitl [H6]; · iexact H6
  isplitl [H7]
  · iexists _; isplitr; swap; (· iexact H7)
    ipureintro
    unfold bodyRun.sl.H7_1
    have hv : bodyRun.sl.v287 d M1 M2 M3 M5 M6 M8 f1 f2 f3 f5 f6
        = pooled (M1.view.read (Elt F) f1) (M2.view.read (Elt F) f2) (M3.view.read (Elt F) f3) (fun k => M5.view.read (Elt F) f5 (ix1 k)) (M6.view.read (Elt F) f6 (ix1 0)) :=
      (View.readAt_full M8.view _ _).trans (hS _)
    rw [hv, View.readAt_full M4.view f4]
    funext y
    refine (View.read_writes_apply_of_pieces (Val := Elt F) M7.view _ (outBlk (M1.view.read (Elt F) f1) (M2.view.read (Elt F) f2) (M3.view.read (Elt F) f3) (M4.view.read (Elt F) f4)
      (fun k => M5.view.read (Elt F) f5 (ix1 k)) (M6.view.read (Elt F) f6 (ix1 0))) _ ?_ y ?_)
    · simp only [List.forall_mem_cons]
      refine ⟨fun x => ?_, fun _ h => absurd h List.not_mem_nil⟩
      refine congrArg (outBlk _ _ _ _ _ _) (funext fun a => Fin.ext ?_)
      match a with
      | ⟨0, _⟩ => exact (show (x 0).val = 0 + 1 * (x 0).val by omega)
      | ⟨1, _⟩ => exact (show (x 1).val = 0 + 1 * (x 1).val by omega)
    · exact View.cover_of_tiled (s := S8x256) _ S8x256.size rfl y
  iexists _; iexact H8

/-- A whole memref owned at contents `X` is its buffer held at some contents that read `X`. -/
theorem owns_pt (d : Dev nD) {sp : Space} {s : Shape} {e : EltTy} (M : Memref sig .tc sp s e) (h : M.IsWhole) (X : s.Idx → Elt F e) :
    (owns (d : Thread nD τ) M fullShare X : sProp 𝕄) = iprop(∃ f : Bf (F := F) d M, ⌜M.view.read (Elt F) f = X⌝ ∗ pt d M f) := by
  unfold owns; rw [h.set_eq_univ]

/-- The run with every operand given by what its memref reads. -/
theorem bodyOwns (d : Dev nD)
    (M1 : Memref sig .tc .vmem S4096x128 .f32) (h1 : M1.IsWhole) (M2 : Memref sig .tc .vmem S1x8x512 .bf16) (h2 : M2.IsWhole)
    (M3 : Memref sig .tc .vmem S128x2048 .bf16) (h3 : M3.IsWhole) (M4 : Memref sig .tc .vmem S256x2048 .bf16) (h4 : M4.IsWhole)
    (M5 : Memref sig .tc .smem S16 .f32) (h5 : M5.IsWhole) (M6 : Memref sig .tc .smem S1 .f32) (h6 : M6.IsWhole)
    (M7 : Memref sig .tc .vmem S8x256 .f32) (h7 : M7.IsWhole) (M8 : Memref sig .tc .vmem S8x2048 .f32) (h8 : M8.IsWhole)
    (X1 : S4096x128.Idx → F .f32) (X2 : S1x8x512.Idx → F .bf16) (X3 : S128x2048.Idx → F .bf16) (X4 : S256x2048.Idx → F .bf16)
    (X5 : S16.Idx → F .f32) (X6 : S1.Idx → F .f32) (X7 : S8x256.Idx → F .f32) (f8 : Bf (F := F) d M8) (Q : PUnit → sProp 𝕄) :
    iprop(owns (d : Thread nD τ) M1 fullShare X1 ∗ owns (d : Thread nD τ) M2 fullShare X2 ∗ owns (d : Thread nD τ) M3 fullShare X3 ∗ owns (d : Thread nD τ) M4 fullShare X4
      ∗ owns (d : Thread nD τ) M5 fullShare X5 ∗ owns (d : Thread nD τ) M6 fullShare X6 ∗ owns (d : Thread nD τ) M7 fullShare X7 ∗ pt d M8 f8
      ∗ (iprop(owns (d : Thread nD τ) M1 fullShare X1 ∗ owns (d : Thread nD τ) M2 fullShare X2 ∗ owns (d : Thread nD τ) M3 fullShare X3 ∗ owns (d : Thread nD τ) M4 fullShare X4
          ∗ owns (d : Thread nD τ) M5 fullShare X5 ∗ owns (d : Thread nD τ) M6 fullShare X6
          ∗ owns (d : Thread nD τ) M7 fullShare (outBlk X1 X2 X3 X4 (fun k => X5 (ix1 k)) (X6 (ix1 0))) ∗ (∃ g, pt d M8 g)) -∗ Q ⟨⟩))
    ⊢ wp frame (wpE (defs₀ (F := F)) 𝒱₀ d none) Set.univ
        (cc1__tc_body (grid1.coords t1_0) M1 h1 M2 h2 M3 h3 M4 h4 M5 h5 M6 h6 M7 h7 M8 h8) Q := by
  rw [owns_pt d M1 h1, owns_pt d M2 h2, owns_pt d M3 h3, owns_pt d M4 h4, owns_pt d M5 h5, owns_pt d M6 h6, owns_pt d M7 h7, owns_pt d M7 h7]
  iintro ⟨⟨%f1, %e1, H1⟩, ⟨%f2, %e2, H2⟩, ⟨%f3, %e3, H3⟩, ⟨%f4, %e4, H4⟩, ⟨%f5, %e5, H5⟩, ⟨%f6, %e6, H6⟩, ⟨%f7, -, H7⟩, H8, Hk⟩
  subst e1 e2 e3 e4 e5 e6
  iapply (bodyRun d M1 h1 M2 h2 M3 h3 M4 h4 M5 h5 M6 h6 M7 h7 M8 h8 f1 f2 f3 f4 f5 f6 f7 f8 Q)
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H1, H2, H3, H4, H5, H6, H7, H8⟩
  iapply Hk
  isplitl [H1]; · iexists f1; isplitr; (· ipureintro; rfl); iexact H1
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexists f6; isplitr; (· ipureintro; rfl); iexact H6
  isplitl [H7]; · iexact H7
  iexact H8

end Cert.Proof.Run

end
-- ==== Proof.Dense.lean ====
/-
  The TensorCore call: its one grid point over the staged operands, and what it leaves in the result array.
-/
module

public import proofs.«01_k».proof.Proof.Body
public import Idealize.ShloMosaic.Lib.Pipeline.RegionsLoop

@[expose] public section

noncomputable section

namespace Cert.Proof.Run

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig (HIx 1) (Elt F) ℕ UU ℕ

/-! ## The proof data, over the contents at which the call is entered -/

variable (Vb : (d : Dev nD) → (b : Ref sig .tc) → Buf (Elt F) ((d : Thread nD τ).loc b)) (lim : ℕ)

/-- Each operand's block as it is fetched. -/
abbrev stg0 (d : Dev nD) : S4096x128.Idx → F .f32 := ((cfg1.win 0).blk t1_0).view.read (Elt F) (Vb d main_v1)
abbrev stg1 (d : Dev nD) : S1x8x512.Idx → F .bf16 := ((cfg1.win 1).blk t1_0).view.read (Elt F) (Vb d main_v3)
abbrev stg2 (d : Dev nD) : S128x2048.Idx → F .bf16 := ((cfg1.win 2).blk t1_0).view.read (Elt F) (Vb d main_v4)
abbrev stg3 (d : Dev nD) : S256x2048.Idx → F .bf16 := ((cfg1.win 3).blk t1_0).view.read (Elt F) (Vb d main_v5)
abbrev stg4 (d : Dev nD) : S16.Idx → F .f32 := ((cfg1.win 4).blk t1_0).view.read (Elt F) (Vb d main_arg5)
abbrev stg5 (d : Dev nD) : S1.Idx → F .f32 := ((cfg1.win 5).blk t1_0).view.read (Elt F) (Vb d main_arg6)
/-- The result's block after the body. -/
def res (d : Dev nD) : S8x256.Idx → F .f32 :=
  outBlk (stg0 Vb d) (stg1 Vb d) (stg2 Vb d) (stg3 Vb d) (fun k => stg4 Vb d (ix1 k)) (stg5 Vb d (ix1 0))

/-- The invariant around the body: the scratch buffer at something. -/
abbrev Φd (d : Dev nD) : sProp 𝕄 := Pipeline.scopedRest (Ix := HIx 1) (Name := ℕ) (U := UU) (Lvl := ℕ) (Val := Elt F) spec1 d

/-- The proof data: the arrays as entered, the operands' blocks unchanged by the body, the result's block at `res`;
    nothing owed, and no wait recorded above level `lim`. -/
def dat (d : Dev nD) : Dat τ (Elt F) (HIx 1) ℕ UU ℕ cfg1 d where
  A w := Vb d (Pipeline.arrRef spec1 w)
  after w _ := match w with
    | ⟨0, _⟩ => stg0 Vb d
    | ⟨1, _⟩ => stg1 Vb d
    | ⟨2, _⟩ => stg2 Vb d
    | ⟨3, _⟩ => stg3 Vb d
    | ⟨4, _⟩ => stg4 Vb d
    | ⟨5, _⟩ => stg5 Vb d
    | ⟨6, _⟩ => res Vb d
  Φ _ := Φd d
  q _ := fullShare
  owed _ := 0
  recorded _ := {p | (K (F := F)).lev (T d, p.1) p.2 ≤ lim}

abbrev adm : (p : Fin 1) → (pcfgs (F := F) p).Adm := fun p => (cfgs p).toPCfg_adm
/-- The data of the program's one pipeline. -/
def pdats : (p : Fin 1) → (d : Dev nD) → Dat τ (Elt F) (HIx 1) ℕ UU ℕ (Pipeline.pin (pcfgs (F := F)) adm p) d
  | ⟨0, _⟩ => fun d => dat Vb lim d

theorem before0 (d : Dev nD) (x) : (dat Vb lim d).before 0 t1_0 x = stg0 Vb d := by unfold Dat.before; rw [if_pos (by decide)]; rfl
theorem before1 (d : Dev nD) (x) : (dat Vb lim d).before 1 t1_0 x = stg1 Vb d := by unfold Dat.before; rw [if_pos (by decide)]; rfl
theorem before2 (d : Dev nD) (x) : (dat Vb lim d).before 2 t1_0 x = stg2 Vb d := by unfold Dat.before; rw [if_pos (by decide)]; rfl
theorem before3 (d : Dev nD) (x) : (dat Vb lim d).before 3 t1_0 x = stg3 Vb d := by unfold Dat.before; rw [if_pos (by decide)]; rfl
theorem before4 (d : Dev nD) (x) : (dat Vb lim d).before 4 t1_0 x = stg4 Vb d := by unfold Dat.before; rw [if_pos (by decide)]; rfl
theorem before5 (d : Dev nD) (x) : (dat Vb lim d).before 5 t1_0 x = stg5 Vb d := by unfold Dat.before; rw [if_pos (by decide)]; rfl

/-- The body meets the pipeline's obligation at its one point. -/
theorem body_obligation (d : Dev nD) : BodyObligation (dat Vb lim d) (defs₀ (F := F)) 𝒱₀ none Set.univ := fun t => by
  obtain rfl := fin_N1 t
  rw [bigSep_W1, bigSep_W1]
  rw [show (dat Vb lim d).Φ t1_0.castSucc = Φd d from rfl, show (dat Vb lim d).Φ t1_0.succ = Φd d from rfl,
    show (dat Vb lim d).owesAt none t1_0.succ = (dat Vb lim d).owesAt none t1_0.castSucc from rfl]
  unfold Φd
  rw [scopedRest1_eq]
  iintro ⟨⟨%fs, Hs⟩, Howes, ⟨%d0, H0⟩, ⟨%d1, H1⟩, ⟨%d2, H2⟩, ⟨%d3, H3⟩, ⟨%d4, H4⟩, ⟨%d5, H5⟩, ⟨%d6, H6⟩⟩
  rw [before0, before1, before2, before3, before4, before5]
  have hidle : cfg1.idle 6 (cfg1.grid.coords t1_0) = false := by
    show (!(k1_cond1 (grid1.coords t1_0) == 1#1)) = false
    rw [cond1]; rfl
  simp only [hidle]
  iapply (bodyOwns d (st1_0 t1_0) (hstage1_0 ((cfg1.slots t1_0 0).cast nbuf1_0)) (st1_1 t1_0) (hstage1_1 ((cfg1.slots t1_0 1).cast nbuf1_1))
    (st1_2 t1_0) (hstage1_2 ((cfg1.slots t1_0 2).cast nbuf1_2)) (st1_3 t1_0) (hstage1_3 ((cfg1.slots t1_0 3).cast nbuf1_3))
    (st1_4 t1_0) (hstage1_4 ((cfg1.slots t1_0 4).cast nbuf1_4)) (st1_5 t1_0) (hstage1_5 ((cfg1.slots t1_0 5).cast nbuf1_5))
    (st1_6 t1_0) (hstage1_6 ((cfg1.slots t1_0 6).cast nbuf1_6)) (Memref.whole cc1_scratch0) (Memref.isWhole_whole _)
    (stg0 Vb d) (stg1 Vb d) (stg2 Vb d) (stg3 Vb d) (stg4 Vb d) (stg5 Vb d) _ fs _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [Hs]; · iexact Hs
  iintro ⟨H0, H1, H2, H3, H4, H5, H6, Hs⟩
  isplitl [Hs]; · iexact Hs
  isplitl [Howes]; · iexact Howes
  isplitl [H0]; · iexact H0
  isplitl [H1]; · iexact H1
  isplitl [H2]; · iexact H2
  isplitl [H3]; · iexact H3
  isplitl [H4]; · iexact H4
  isplitl [H5]; · iexact H5
  rw [show idle1 6 (grid1.coords t1_0) = false from hidle]
  iexact H6

/-! ## The call over the thread's state -/

/-- The result array after the call: the body's block, written back. -/
def out (d : Dev nD) : Buf (Elt F) ((d : Thread nD τ).loc main_v6) := (dat Vb lim d).arrAt 6 cfg1.N

/-- The pipeline's own waits are on semaphores of level zero. -/
theorem waitPairs_lev (d : Dev nD) : ∀ p ∈ (Pipeline.pin (pcfgs (F := F)) adm 0).waitPairs (none : HIx 1), (K (F := F)).lev (T d, p.1) p.2 ≤ lim := by
  rintro p ⟨w, s, rfl⟩
  exact Nat.zero_le _

-- the valuation the call leaves is any `Vp` that holds `out` in the result array and agrees with `Vb` elsewhere
variable (Vp : (d : Dev nD) → (b : Ref sig .tc) → Buf (Elt F) ((d : Thread nD τ).loc b))

/-- What the thread has waited for so far, none of it above level `lim`, and nothing owed. -/
abbrev quiet (lim : ℕ) (d : Dev nD) : sProp 𝕄 :=
  iprop(∃ W, ⌜(K (F := F)).WBelow (T d) W lim⌝ ∗ owes (d : Thread nD τ) (0 : CellTallies nD τ sig (HIx 1)) W)

set_option backward.isDefEq.respectTransparency.types false in
/-- The TensorCore call entered with every unscoped buffer at `Vb` and left with them at `Vp`. -/
def reg (hVp_out : ∀ d, Vp d main_v6 = out Vb lim d) (hVp_ne : ∀ d (b : Ref sig .tc), b ≠ main_v6 → Vp d b = Vb d b) :
    Pipeline.RegionSeg (pcfgs (F := F)) adm (pdats Vb lim) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody d := (body_obligation Vb lim d).loose
  hwaits := Pipeline.hwaits_of_owed_zero _ _ _ _ (K (F := F)).L (K (F := F)).lev 0 fun _ _ => rfl
  pre d := iprop(unscopedBufs d (Vb d) ∗ quiet lim d)
  post d := iprop(unscopedBufs d (Vp d) ∗ quiet lim d)
  X _ := BI.emp
  Y _ := BI.emp
  Z d := Pipeline.unscopedRest (Ix := HIx 1) (Name := ℕ) (U := UU) (Lvl := ℕ) spec1 d (Vb d)
  hentry d := by
    rw [Pipeline.ownSems0_none]
    have hsplit := Pipeline.arrays_of_unscopedBufs (p := 0) (pcfgs (F := F)) adm (pdats Vb lim) launch1.win launch1.arr_whole d
      ((pdats Vb lim 0 d).share_full fun _ => rfl) (Vb d) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin d := by
    rw [show (pdats Vb lim 0 d).Φ 0 = Φd d from rfl]
    iintro ⟨-, -, Hr⟩; iexact Hr
  hout d := by
    rw [Pipeline.ownSems0_none, show (pdats Vb lim 0 d).Φ (Fin.last _) = Φd d from rfl]
    iintro Hr
    isplitr; · iempintro
    isplitr; · iempintro
    iexact Hr
  hexit d := by
    have hjoin := Pipeline.unscopedBufs_of_arrays (p := 0) (pcfgs (F := F)) adm (Ix := HIx 1) (Name := ℕ) (U := UU) (Lvl := ℕ) launch1.win launch1.arr_whole d
      (pdats Vb lim) ((pdats Vb lim 0 d).share_full fun _ => rfl) (Vb d) (Vp d) ((pdats Vb lim 0 d).arrAt · cfg1.N)
      (fun w => by
        fin_cases w
        · exact ((pdats Vb lim 0 d).arrAt_in 0 rfl _).trans (hVp_ne d main_v1 (by decide)).symm
        · exact ((pdats Vb lim 0 d).arrAt_in 1 rfl _).trans (hVp_ne d main_v3 (by decide)).symm
        · exact ((pdats Vb lim 0 d).arrAt_in 2 rfl _).trans (hVp_ne d main_v4 (by decide)).symm
        · exact ((pdats Vb lim 0 d).arrAt_in 3 rfl _).trans (hVp_ne d main_v5 (by decide)).symm
        · exact ((pdats Vb lim 0 d).arrAt_in 4 rfl _).trans (hVp_ne d main_arg5 (by decide)).symm
        · exact ((pdats Vb lim 0 d).arrAt_in 5 rfl _).trans (hVp_ne d main_arg6 (by decide)).symm
        · exact (hVp_out d).symm)
      (fun b hb => hVp_ne d b fun h => hb (h ▸ Finset.mem_image.mpr ⟨6, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr
    · ipureintro
      intro p hp
      rcases hW hp with h | h
      · exact h
      · exact waitPairs_lev lim d p h
    iexact HO

end Cert.Proof.Run

end
-- ==== Proof.Main.lean ====
/-
  `@main` on a device's TensorCore — the flattening of the row numbers, the SparseCore call, the casts, the TensorCore
  call — and the whole program's run: it ends, with its arguments unchanged, its result at a known value and every
  semaphore at zero.
-/
module

public import proofs.«01_k».proof.Proof.Gather
public import proofs.«01_k».proof.Proof.Dense
public import Idealize.ShloMosaic.Lib.Pipeline.Frame
public import Idealize.ShloMosaic.Lib.SparseCore.Quiescent

@[expose] public section

noncomputable section

namespace Cert.Proof.Run

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx)
open Idealize.ShloMosaic.StableHlo (held wp_hlo_within held_sub_split held_congr)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (cells launchToks cellsGhost toksInit ucRefs)

variable {F : FTy → Type} [FloatOps F] [Named F]

local notation "𝕄" => MT nD τ sig (HIx 1) (Elt F) ℕ UU ℕ

/-! ## The contents of every buffer, statement by statement -/

variable (m : (ℓ : Loc nD τ sig) → Buf (Elt F) ℓ) (ρ : Dev nD → PrngReg)

/-- A TensorCore reference as a buffer of its device. -/
abbrev dr (b : Ref sig .tc) : DevRef τ sig := Proc.devRef .tc b

abbrev opIdx : HloOp τ sig (Elt F) := StableHlo.reshape main_arg0 main_v0 (rfl : (.i32 : EltTy) = .i32) shapeCasts_S8x512_S4096
abbrev opAttn : HloOp τ sig (Elt F) := StableHlo.reshape main_arg1 main_v2 (rfl : (.f32 : EltTy) = .f32) shapeCasts_S8x512_S1x8x512
abbrev opAttn16 : HloOp τ sig (Elt F) :=
  StableHlo.unary main_v2 main_v3 ((truncf .bf16 · bitsLt_bf16_f32) : (⟨S1x8x512, .f32⟩ : BufTy).Contents (Elt F) → (⟨S1x8x512, .bf16⟩ : BufTy).Contents (Elt F))
abbrev opV16 : HloOp τ sig (Elt F) :=
  StableHlo.unary main_arg3 main_v4 ((truncf .bf16 · bitsLt_bf16_f32) : (⟨S128x2048, .f32⟩ : BufTy).Contents (Elt F) → (⟨S128x2048, .bf16⟩ : BufTy).Contents (Elt F))
abbrev opPhi16 : HloOp τ sig (Elt F) :=
  StableHlo.unary main_arg4 main_v5 ((truncf .bf16 · bitsLt_bf16_f32) : (⟨S256x2048, .f32⟩ : BufTy).Contents (Elt F) → (⟨S256x2048, .bf16⟩ : BufTy).Contents (Elt F))

/-- At the launch. -/
def V0 (d : Dev nD) : Valuation τ sig (Elt F) := fun b => m (d, b)
/-- With the row numbers flattened. -/
def V1 (d : Dev nD) : Valuation τ sig (Elt F) := (opIdx (F := F)).result (V0 m d)
/-- The row numbers, the table and the result array as the SparseCore call finds them. -/
def vi (d : Dev nD) : Buf (Elt F) (iLoc d) := V1 m d (dr main_v0)
def vt (d : Dev nD) : Buf (Elt F) (xLoc d) := V1 m d (dr main_arg2)
def vo (d : Dev nD) : Buf (Elt F) (oLoc d) := V1 m d (dr main_v1)
/-- With the rows gathered. -/
def V2 (d : Dev nD) : Valuation τ sig (Elt F) := Function.update (V1 m d) (dr main_v1) (gath (vi m d) (vt m d))
/-- With the TensorCore call's operands cast. -/
def V6 (d : Dev nD) : Valuation τ sig (Elt F) :=
  (opPhi16 (F := F)).result ((opV16 (F := F)).result ((opAttn16 (F := F)).result ((opAttn (F := F)).result (V2 m d))))
/-- The same, by TensorCore reference. -/
def Vb (d : Dev nD) (b : Ref sig .tc) : Buf (Elt F) ((d : Thread nD τ).loc b) := V6 m d (dr b)
/-- No wait of the SparseCore call is above the levels of the calls after it. -/
abbrev lim : ℕ := 8 * SparseCore.Cfg.Blocks.fst 1 1 1
/-- With the TensorCore call's result. -/
def V7 (d : Dev nD) : Valuation τ sig (Elt F) := Function.update (V6 m d) (dr main_v6) (out (Vb m) lim d)
def Vp (d : Dev nD) (b : Ref sig .tc) : Buf (Elt F) ((d : Thread nD τ).loc b) := V7 m d (dr b)

theorem dr_inj {a b : Ref sig .tc} (h : dr a = dr b) : a = b := Proc.devRef_injective _ h

theorem Vp_out (d : Dev nD) : Vp m d main_v6 = out (Vb m) lim d := by
  unfold Vp V7; exact Function.update_self _ _ _
theorem Vp_ne (d : Dev nD) (b : Ref sig .tc) (h : b ≠ main_v6) : Vp m d b = Vb m d b :=
  Function.update_of_ne (fun e => h (dr_inj e)) _ _

/-! ## The SparseCore call's arrays among the thread's -/

abbrev scRefs : Finset (DevRef τ sig) := {dr main_v0, dr main_arg2, dr main_v1}

theorem scRefs_sub : scRefs ⊆ ucRefs τ sig := by decide

theorem held_sc (d : Dev nD) (W : Valuation τ sig (Elt F)) :
    (held (T d) (ucRefs τ sig) W : sProp 𝕄)
      = iprop(((iLoc d ↦{fullShare} W (dr main_v0)) ∗ (xLoc d ↦{fullShare} W (dr main_arg2)) ∗ (oLoc d ↦{fullShare} W (dr main_v1)))
          ∗ held (T d) (ucRefs τ sig \ scRefs) W) := by
  rw [held_sub_split (T d) scRefs_sub W]
  congr 1
  unfold held scRefs
  rw [SparseCore.bigSep_insert' (by decide), SparseCore.bigSep_insert' (by decide), bigSep_singleton]

/-- The arrays beside the SparseCore call's are the same before and after it. -/
theorem held_rest (d : Dev nD) : (held (T d) (ucRefs τ sig \ scRefs) (V2 m d) : sProp 𝕄) = held (T d) (ucRefs τ sig \ scRefs) (V1 m d) :=
  held_congr _ fun b hb => by
    refine Function.update_of_ne (fun h => (Finset.mem_sdiff.mp hb).2 ?_) _ _
    rw [h]; decide

theorem st_eq (d : Dev nD) :
    (iprop((iLoc d ↦{fullShare} V1 m d (dr main_v0)) ∗ (xLoc d ↦{fullShare} V1 m d (dr main_arg2)) ∗ (oLoc d ↦{fullShare} V1 m d (dr main_v1))) : sProp 𝕄)
      = bigSep Finset.univ fun c : Fin ((K (F := F)).nCore 0) => (P (vi m) (vt m) (vo m)).st 0 d c :=
  arrays_tiles (vi m) (vt m) d (vo m d)
theorem dn_eq (d : Dev nD) :
    (bigSep Finset.univ fun c : Fin ((K (F := F)).nCore 0) => (P (vi m) (vt m) (vo m)).dn 0 d c : sProp 𝕄)
      = iprop((iLoc d ↦{fullShare} V2 m d (dr main_v0)) ∗ (xLoc d ↦{fullShare} V2 m d (dr main_arg2)) ∗ (oLoc d ↦{fullShare} V2 m d (dr main_v1))) := by
  rw [show V2 m d (dr main_v0) = vi m d from Function.update_of_ne (by decide) _ _, show V2 m d (dr main_arg2) = vt m d from Function.update_of_ne (by decide) _ _,
    show V2 m d (dr main_v1) = gath (vi m d) (vt m d) from Function.update_self _ _ _]
  exact (arrays_tiles (vi m) (vt m) d (gath (vi m d) (vt m d))).symm

/-! ## The launch element of the ghost state -/

def u₀ : UU := (initOf (K (F := F)).hsCells (K (F := F)).hsToks, (initOf (cells cfgs cellOf_inj) (launchToks cfgs cellOf_inj), 1))

theorem ownU_split (a : UH) (b : UP) : (ownU ((a, (b, 1)) : UU) : sProp 𝕄) ⊢ iprop(BI.own (EH a) ∗ BI.own (EP b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

/-- The TensorCore call's ghost state on device `d`: its staging cells' and its tickets. -/
abbrev Gd (d : Dev nD) : sProp 𝕄 :=
  iprop(cellsGhost (Pipeline.pin (pcfgs (F := F)) adm) EP 0 d ∗ toksInit (Pipeline.pin (pcfgs (F := F)) adm) EP 0 d)

theorem cells_one : (bigSep Finset.univ fun c : Dev nD => bigSep Finset.univ fun p => cellsGhost cfgs EP p c : sProp 𝕄)
    = bigSep Finset.univ fun d : Dev nD => cellsGhost (Pipeline.pin (pcfgs (F := F)) adm) EP 0 d :=
  bigSep_congr fun _ _ => bigSep_univ_of_subsingleton (0 : Fin 1)
theorem toks_one : (bigSep Finset.univ fun c : Dev nD => bigSep Finset.univ fun p => toksInit cfgs EP p c : sProp 𝕄)
    = bigSep Finset.univ fun d : Dev nD => toksInit (Pipeline.pin (pcfgs (F := F)) adm) EP 0 d :=
  bigSep_congr fun _ _ => bigSep_univ_of_subsingleton (0 : Fin 1)
/-- The kernel's threads take nothing of their own from the launch. -/
theorem x_emp : (bigSep Finset.univ fun thr : Thread nD τ => bigSep Finset.univ fun q : Fin 1 => (P (vi m) (vt m) (vo m)).x q thr : sProp 𝕄) = iprop(emp) :=
  (bigSep_congr fun _ _ => bigSep_univ_of_subsingleton (0 : Fin 1)).trans (bigSep_emp_const _)

theorem hu₀ : (ownU (u₀ (F := F)) : sProp 𝕄)
    ⊢ |={Set.univ}=> iprop(BI.own (EH (initOf (K (F := F)).hsCells (K (F := F)).hsToks)) ∗ (bigSep Finset.univ fun d : Dev nD => Gd d)
        ∗ bigSep Finset.univ fun thr : Thread nD τ => bigSep Finset.univ fun q : Fin 1 => (P (vi m) (vt m) (vo m)).x q thr) := by
  unfold u₀
  iintro Hu
  ihave H := (ownU_split _ _) $$ Hu
  icases H with ⟨HH, HP⟩
  imod (Pipeline.fund_ghost cfgs EP cellOf_inj) $$ HP with ⟨Hc, Ht⟩
  imodintro
  isplitl [HH]; · iexact HH
  isplitl [Hc Ht]
  · rw [bigSep_sep']
    isplitl [Hc]
    · iapply (Entails.of_eq cells_one); iexact Hc
    · iapply (Entails.of_eq toks_one); iexact Ht
  iapply (Entails.of_eq (x_emp m).symm)
  iempintro

/-! ## `@main` on the TensorCore -/

theorem sub_uc (op : HloOp τ sig (Elt F)) (h : op.bufs ⊆ StableHlo.tcRefs τ sig) : op.bufs ⊆ ucRefs τ sig := Pipeline.sub_ucRefs op h
theorem hIdx : (opIdx (F := F)).bufs ⊆ ucRefs τ sig := show ({dr main_arg0, dr main_v0} : Finset (DevRef τ sig)) ⊆ ucRefs τ sig by decide
theorem hAttn : (opAttn (F := F)).bufs ⊆ ucRefs τ sig := show ({dr main_arg1, dr main_v2} : Finset (DevRef τ sig)) ⊆ ucRefs τ sig by decide
theorem hAttn16 : (opAttn16 (F := F)).bufs ⊆ ucRefs τ sig := show ({dr main_v2, dr main_v3} : Finset (DevRef τ sig)) ⊆ ucRefs τ sig by decide
theorem hV16 : (opV16 (F := F)).bufs ⊆ ucRefs τ sig := show ({dr main_arg3, dr main_v4} : Finset (DevRef τ sig)) ⊆ ucRefs τ sig by decide
theorem hPhi16 : (opPhi16 (F := F)).bufs ⊆ ucRefs τ sig := show ({dr main_arg4, dr main_v5} : Finset (DevRef τ sig)) ⊆ ucRefs τ sig by decide

theorem unscoped_launch (d : Dev nD) : (unscopedBufs d (fun b => m ((SparseCore.T d).loc b)) : sProp 𝕄) = held (T d) (ucRefs τ sig) (V0 m d) :=
  Pipeline.unscopedBufs_held d (V0 m d)
theorem unscoped_call (d : Dev nD) : (unscopedBufs d (Vb m d) : sProp 𝕄) = held (T d) (ucRefs τ sig) (V6 m d) :=
  Pipeline.unscopedBufs_held d (V6 m d)
theorem unscoped_end (d : Dev nD) : (unscopedBufs d (Vp m d) : sProp 𝕄) = held (T d) (ucRefs τ sig) (V7 m d) :=
  Pipeline.unscopedBufs_held d (V7 m d)

/-- What `@main` leaves the claims: every array of the device at its last contents. -/
abbrev FIN (d : Dev nD) : sProp 𝕄 := held (T d) (ucRefs τ sig) (V7 m d)

theorem reg_pre (d : Dev nD) : (reg (Vb m) lim (Vp m) (Vp_out m) (Vp_ne m)).pre d = iprop(unscopedBufs d (Vb m d) ∗ quiet lim d) := rfl
theorem reg_post (d : Dev nD) : (reg (Vb m) lim (Vp m) (Vp_out m) (Vp_ne m)).post d = iprop(unscopedBufs d (Vp m d) ∗ quiet lim d) := rfl

/-- After its one SparseCore call the TensorCore owes nothing, and has waited for nothing above level `lim`. -/
theorem tcSt_one (d : Dev nD) : ∃ R : sProp 𝕄, ((K (F := F)).tcSt EH d 1 : sProp 𝕄) = iprop(quiet lim d ∗ R) := by
  unfold SparseCore.Cfg.tcSt
  rw [(K (F := F)).Otc_end d (n := 1) le_rfl]
  exact ⟨_, rfl⟩

/-- The TensorCore call from every array as the casts leave them to every array as the claims read them. -/
theorem call_wp (d : Dev nD) (Q : PUnit → sProp 𝕄) :
    iprop((iprop(boundary (T d) ∗ held (T d) (ucRefs τ sig) (V7 m d) ∗ quiet lim d) -∗ Q ⟨⟩)
        ∗ boundary (T d) ∗ held (T d) (ucRefs τ sig) (V6 m d) ∗ quiet lim d ∗ levAts (K (F := F)).L (K (F := F)).lev
        ∗ cellsGhost (Pipeline.pin (pcfgs (F := F)) adm) EP 0 d ∗ toksInit (Pipeline.pin (pcfgs (F := F)) adm) EP 0 d)
      ⊢ wp frame (wpE (D (F := F)) 𝒱 (T d) none) Set.univ (.op (.customCall (Pipeline.entry 0) ()) .ret) Q := by
  have h := Pipeline.RegionSeg.wp (pcfgs (F := F)) adm (pdats (Vb m) lim) (none : HIx 1) cellOf_inj EP (defs₀ (F := F)) 𝒱₀ (K (F := F)).L (K (F := F)).lev
    (reg (Vb m) lim (Vp m) (Vp_out m) (Vp_ne m)) d none (fun _ h => nomatch h) .ret Q
  rw [reg_pre, reg_post] at h
  iintro ⟨Hk, Hb, Hheld, HO, Hlev, Hcg, Htk⟩
  iapply h
  isplitl [Hk]
  · iintro ⟨Hb, Hheld, HO⟩
    rw [wp_ret]; imodintro
    iapply Hk
    isplitl [Hb]; · iexact Hb
    isplitl [Hheld]; · iapply (Entails.of_eq (unscoped_end m d)); iexact Hheld
    iexact HO
  isplitl [Hb]; · iexact Hb
  isplitl [Hheld HO]
  · isplitl [Hheld]; · iapply (Entails.of_eq (unscoped_call m d).symm); iexact Hheld
    iexact HO
  isplitl [Hlev]; · iexact Hlev
  isplitl [Hcg]; · iexact Hcg
  iexact Htk

theorem hmain (κ : GSem nD τ sig → ℕ) (d : Dev nD) :
    iprop((K (F := F)).ctx EH (P (vi m) (vt m) (vo m)) κ ∗ (K (F := F)).tcSt EH d 0 ∗ (K (F := F)).tcRes m ρ d ∗ Gd d)
      ⊢ wp frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [unscoped_launch]
  simp only [main, wp_bind, wp_pure]
  iintro ⟨#Hctx, Hst, ⟨Hb, Hheld, Hts, -⟩, Hcg, Htk⟩
  iapply (wp_hlo_within 𝒱 (T d) none Set.univ (op := opIdx) (S := ucRefs τ sig) hIdx (V := V0 m d)) $$ [Hb Hheld]
  · isplitl [Hb] <;> iassumption
  iintro ⟨Hb, Hheld⟩
  rw [wp_ret]; imodintro
  -- the SparseCore call
  ihave Hh := (Entails.of_eq (show (held (SparseCore.T d) (ucRefs τ sig) ((opIdx (F := F)).result (V0 m d)) : sProp 𝕄) = _ from held_sc (F := F) d (V1 m d))) $$ Hheld
  icases Hh with ⟨Hsc, Hrest⟩
  ihave Hsc' := (Entails.of_eq (st_eq m d)) $$ Hsc
  iapply ((K (F := F)).wp_run (D (F := F)) 𝒱 (EH := EH) (P := P (vi m) (vt m) (vo m)) κ d 0) $$ [Hst Hsc' Hrest Hb Hts Hcg Htk]
  isplitr; · iexact Hctx
  isplitl [Hst]; · iexact Hst
  isplitl [Hsc']; · iexact Hsc'
  iintro ⟨Hst, Hdn⟩
  ihave Hdn' := (Entails.of_eq (dn_eq m d)) $$ Hdn
  ihave Hheld := (Entails.of_eq (held_sc (F := F) d (V2 m d)).symm) $$ [Hdn' Hrest]
  · rw [held_rest]
    isplitl [Hdn']; · iexact Hdn'
    iexact Hrest
  -- the casts
  iapply (wp_hlo_within 𝒱 (T d) none Set.univ (op := opAttn) (S := ucRefs τ sig) hAttn (V := V2 m d)) $$ [Hb Hheld]
  · isplitl [Hb] <;> iassumption
  iintro ⟨Hb, Hheld⟩
  rw [wp_ret]; imodintro
  iapply (wp_hlo_within 𝒱 (T d) none Set.univ (op := opAttn16) (S := ucRefs τ sig) hAttn16 (V := (opAttn (F := F)).result (V2 m d))) $$ [Hb Hheld]
  · isplitl [Hb] <;> iassumption
  iintro ⟨Hb, Hheld⟩
  rw [wp_ret]; imodintro
  iapply (wp_hlo_within 𝒱 (T d) none Set.univ (op := opV16) (S := ucRefs τ sig) hV16 (V := (opAttn16 (F := F)).result ((opAttn (F := F)).result (V2 m d)))) $$ [Hb Hheld]
  · isplitl [Hb] <;> iassumption
  iintro ⟨Hb, Hheld⟩
  rw [wp_ret]; imodintro
  iapply (wp_hlo_within 𝒱 (T d) none Set.univ (op := opPhi16) (S := ucRefs τ sig) hPhi16
    (V := (opV16 (F := F)).result ((opAttn16 (F := F)).result ((opAttn (F := F)).result (V2 m d))))) $$ [Hb Hheld]
  · isplitl [Hb] <;> iassumption
  iintro ⟨Hb, Hheld⟩
  rw [wp_ret]; imodintro
  -- the TensorCore call
  ihave #Hlev := (SparseCore.Cfg.ctx_levAts (K := K (F := F)) (EH := EH) (P := P (vi m) (vt m) (vo m)) κ) $$ Hctx
  rw [show (Prog.lift (TpuEff.customCall (SparseCore.inner (Pipeline.entry 0)) ()) : Prog (TpuEff nD τ sig (Elt F) (SparseCore.Sig (ΛP (F := F)) 1) .tc) PUnit)
    = SparseCore.liftProg (.op (.customCall (Pipeline.entry 0) ()) .ret) from rfl]
  iapply ((K (F := F)).wp_liftProg (D (F := F)) 𝒱 (T d) Set.univ none (.op (.customCall (Pipeline.entry 0) ()) .ret) _)
  iapply (call_wp m d _)
  obtain ⟨R, hR⟩ := tcSt_one (F := F) d
  ihave Hst' := (Entails.of_eq (show ((K (F := F)).tcSt EH d ((0 : Fin 1).val + 1) : sProp 𝕄) = _ from hR)) $$ Hst
  icases Hst' with ⟨HO, Hst⟩
  isplitl [Hst Hts]
  · iintro ⟨Hb, Hheld, HO⟩
    imodintro
    isplitl [Hst HO]
    · iapply (Entails.of_eq hR.symm)
      isplitl [HO] <;> iassumption
    isplitl [Hheld]; · iexact Hheld
    isplitl [Hb] <;> iassumption
  isplitl [Hb]; · iexact Hb
  isplitl [Hheld]; · iexact Hheld
  isplitl [HO]; · iexact HO
  isplitr; · iexact Hlev
  isplitl [Hcg]; · iexact Hcg
  iexact Htk

/-! ## The program's run -/

/-- What the claims read of device `d`'s final state: every array at its last contents. -/
def fq (d : Dev nD) (s' : Phys nD τ sig (Elt F)) : Prop := ∀ b ∈ ucRefs τ sig, s'.mem.mem (d, b) = V7 m d b

theorem hfin (d : Dev nD) (s' : Phys nD τ sig (Elt F)) : iprop(FIN m d ∗ SI s') ⊢ (⌜fq m d s'⌝ : sProp 𝕄) := by
  have one : ∀ b ∈ ucRefs τ sig, iprop(FIN m d ∗ SI s') ⊢ (⌜s'.mem.mem (d, b) = V7 m d b⌝ : sProp 𝕄) := by
    intro b hb
    have hel : (FIN m d : sProp 𝕄) ⊢ (((d, b) : Loc nD τ sig) ↦{fullShare} V7 m d b) := bigSep_elim (Φ := fun b => (((d, b) : Loc nD τ sig) ↦{fullShare} V7 m d b : sProp 𝕄)) hb
    iintro ⟨Hh, HSI⟩
    ihave Hb := hel $$ Hh
    ihave H := (SI_pointsTo_agree (st := s') (ℓ := ((d, b) : Loc nD τ sig)) (I := Finset.univ) (q := fullShare) (f := V7 m d b)) $$ [HSI Hb]
    · isplitl [HSI] <;> iassumption
    icases H with %h
    ipureintro; exact funext fun i => h i (Finset.mem_univ i)
  exact ((forall_intro fun b : {b // b ∈ ucRefs τ sig} => one b.1 b.2).trans pure_forall.2).trans (Laws.pure_mono fun h b hb => h ⟨b, hb⟩)

/-- The run: every array at its last contents, every semaphore at zero. -/
theorem run_all [∀ e, Nonempty (Elt F e)] (hv : InRows (vi m)) :
    θ_run (defs (F := F)) (threads (F := F)) ⟨m, fun _ => 0, ρ⟩
      (fun r => (∀ (d : Dev nD), ∀ b ∈ ucRefs τ sig, r.2.mem (d, b) = V7 m d b) ∧ r.2.sem = fun _ => 0) :=
  SparseCore.Cfg.θ_run_sc_quiescent (K := K (F := F)) (D := D (F := F)) (𝒱 := 𝒱) (EH := EH) (P := P (vi m) (vt m) (vo m)) (A := ∅) facts v₀
    (fun q hq => match q with | 0 => nomatch hq)
    (fun q _ => match q with | 0 => tileObl (vi m) (vt m) (vo m) facts hv)
    (fun q _ => match q with | 0 => SparseCore.Cfg.VecSplit.of_plain (vecSplit (vi m) (vt m) (vo m)))
    m ρ main (fun d => Gd d) (FIN m) u₀ (sep_elim_left.trans (hu₀ m)) (hmain m ρ) (fq m) (hfin m)
    (fun r => (∀ (d : Dev nD), ∀ b ∈ ucRefs τ sig, r.2.mem (d, b) = V7 m d b) ∧ r.2.sem = fun _ => 0) (fun _ h hz => ⟨h, hz⟩)

end Cert.Proof.Run

end
-- ==== Proof.Value.lean ====
/-
  What the program computes, as one expression of its arguments, and its run with that value.
-/
module

public import proofs.«01_k».proof.Proof.Main
public import Idealize.ShloMosaic.Lib.Pipeline.ValueKit

@[expose] public section

set_option maxRecDepth 16384

noncomputable section

namespace Cert.Proof.Run

open Cert.KernelIdeal Cert.KernelIdeal.Gen

open Idealize.ShloMosaic
open Idealize.ShloMosaic.TcCoe Idealize.ShloMosaic.Tactic
open Idealize.SL Idealize.SL.Sem
open Idealize.ShloMosaic.Pipeline (ucRefs)

variable {F : FTy → Type} [FloatOps F] [Named F]

/-! ## The blocks are the arrays -/

section Blocks

variable (Vb : (d : Dev nD) → (b : Ref sig .tc) → Buf (Elt F) ((d : Thread nD τ).loc b)) (lim : ℕ) (d : Dev nD)

theorem stg0_eq : stg0 Vb d = Vb d main_v1 := by
  funext y
  show Vb d main_v1 (((cfg1.win 0).blk t1_0).view.emb y) = _
  refine congrArg _ (funext fun a => Fin.ext ?_)
  blk_simp
  rw [(by decide +kernel : ∀ a, win1_0.index t1_0 a = 0) a, Nat.zero_mul, Nat.zero_add]

theorem stg1_eq : stg1 Vb d = Vb d main_v3 := by
  funext y
  show Vb d main_v3 (((cfg1.win 1).blk t1_0).view.emb y) = _
  refine congrArg _ (funext fun a => Fin.ext ?_)
  blk_simp
  rw [(by decide +kernel : ∀ a, win1_1.index t1_0 a = 0) a, Nat.zero_mul, Nat.zero_add]

theorem stg2_eq : stg2 Vb d = Vb d main_v4 := by
  funext y
  show Vb d main_v4 (((cfg1.win 2).blk t1_0).view.emb y) = _
  refine congrArg _ (funext fun a => Fin.ext ?_)
  blk_simp
  rw [(by decide +kernel : ∀ a, win1_2.index t1_0 a = 0) a, Nat.zero_mul, Nat.zero_add]

theorem stg3_eq : stg3 Vb d = Vb d main_v5 := by
  funext y
  show Vb d main_v5 (((cfg1.win 3).blk t1_0).view.emb y) = _
  refine congrArg _ (funext fun a => Fin.ext ?_)
  blk_simp
  rw [(by decide +kernel : ∀ a, win1_3.index t1_0 a = 0) a, Nat.zero_mul, Nat.zero_add]

theorem stg4_eq : stg4 Vb d = Vb d main_arg5 := by
  funext y
  show Vb d main_arg5 (((cfg1.win 4).blk t1_0).view.emb y) = _
  refine congrArg _ (funext fun a => Fin.ext ?_)
  blk_simp
  rw [(by decide +kernel : ∀ a, win1_4.index t1_0 a = 0) a, Nat.zero_mul, Nat.zero_add]

theorem stg5_eq : stg5 Vb d = Vb d main_arg6 := by
  funext y
  show Vb d main_arg6 (((cfg1.win 5).blk t1_0).view.emb y) = _
  refine congrArg _ (funext fun a => Fin.ext ?_)
  blk_simp
  rw [(by decide +kernel : ∀ a, win1_5.index t1_0 a = 0) a, Nat.zero_mul, Nat.zero_add]

/-- The result array after the call is the body's block. -/
theorem out_eq : out Vb lim d = res Vb d := by
  unfold out
  refine (dat Vb lim d).arrAt_eq_of_after_last 6 t1_0 (by decide +kernel) _ fun j => ?_
  blk_simp
  rfl

end Blocks

/-! ## The arrays before the TensorCore call -/

variable (m : (ℓ : Loc nD τ sig) → Buf (Elt F) ℓ) (ρ : Dev nD → PrngReg) (d : Dev nD)

/-- The casts touch nothing but their own results. -/
theorem V6_of_ne (b : DevRef τ sig) (h2 : b ≠ dr main_v2) (h3 : b ≠ dr main_v3) (h4 : b ≠ dr main_v4) (h5 : b ≠ dr main_v5) : V6 m d b = V2 m d b := by
  unfold V6
  rw [(opPhi16 (F := F)).result_of_not_mem _ (fun h => h5 (Finset.mem_singleton.mp h)), (opV16 (F := F)).result_of_not_mem _ (fun h => h4 (Finset.mem_singleton.mp h)),
    (opAttn16 (F := F)).result_of_not_mem _ (fun h => h3 (Finset.mem_singleton.mp h)), (opAttn (F := F)).result_of_not_mem _ (fun h => h2 (Finset.mem_singleton.mp h))]

/-- Before the casts every array but the row numbers' and the gathered rows' is as launched. -/
theorem V2_of_ne (b : DevRef τ sig) (h0 : b ≠ dr main_v0) (h1 : b ≠ dr main_v1) : V2 m d b = m (d, b) := by
  unfold V2
  rw [Function.update_of_ne h1]
  unfold V1
  rw [(opIdx (F := F)).result_of_not_mem _ (fun h => h0 (Finset.mem_singleton.mp h))]
  rfl

/-- An array that nothing writes ends as launched. -/
theorem V7_arg (b : DevRef τ sig) (h0 : b ≠ dr main_v0) (h1 : b ≠ dr main_v1) (h2 : b ≠ dr main_v2) (h3 : b ≠ dr main_v3) (h4 : b ≠ dr main_v4)
    (h5 : b ≠ dr main_v5) (h6 : b ≠ dr main_v6) : V7 m d b = m (d, b) := by
  unfold V7
  rw [Function.update_of_ne h6, V6_of_ne m d b h2 h3 h4 h5, V2_of_ne m d b h0 h1]

/-- The row numbers, flattened. -/
theorem vi_eq : vi m d = shapeCast S4096 (m ((d : Thread nD τ).loc main_arg0)) shapeCasts_S8x512_S4096 := by
  unfold vi V1
  exact StableHlo.reshape_result _ _ _ _ _ _ _

theorem vt_eq : vt m d = m ((d : Thread nD τ).loc main_arg2) := by
  unfold vt V1
  rw [(opIdx (F := F)).result_of_not_mem _ (fun h => absurd (Finset.mem_singleton.mp h) (by decide))]
  rfl

theorem Vb_rows : Vb m d main_v1 = gath (shapeCast S4096 (m ((d : Thread nD τ).loc main_arg0)) shapeCasts_S8x512_S4096) (m ((d : Thread nD τ).loc main_arg2)) := by
  unfold Vb
  rw [V6_of_ne m d _ (by decide) (by decide) (by decide) (by decide)]
  unfold V2
  rw [Function.update_self, vi_eq, vt_eq]

theorem Vb_attn : Vb m d main_v3 = truncf .bf16 (shapeCast S1x8x512 (m ((d : Thread nD τ).loc main_arg1)) shapeCasts_S8x512_S1x8x512) bitsLt_bf16_f32 := by
  unfold Vb V6
  rw [(opPhi16 (F := F)).result_of_not_mem _ (fun h => absurd (Finset.mem_singleton.mp h) (by decide)), (opV16 (F := F)).result_of_not_mem _ (fun h => absurd (Finset.mem_singleton.mp h) (by decide))]
  refine (StableHlo.unary_result _ _ _ _ _ _).trans ?_
  rw [show (opAttn (F := F)).result (V2 m d) (dr main_v2) = _ from StableHlo.reshape_result _ _ _ _ _ _ _]
  rw [show V2 m d (dr main_arg1) = m (d, dr main_arg1) from V2_of_ne m d _ (by decide) (by decide)]
  rfl

theorem Vb_v : Vb m d main_v4 = truncf .bf16 (m ((d : Thread nD τ).loc main_arg3)) bitsLt_bf16_f32 := by
  unfold Vb V6
  rw [(opPhi16 (F := F)).result_of_not_mem _ (fun h => absurd (Finset.mem_singleton.mp h) (by decide))]
  refine (StableHlo.unary_result _ _ _ _ _ _).trans ?_
  rw [(opAttn16 (F := F)).result_of_not_mem _ (fun h => absurd (Finset.mem_singleton.mp h) (by decide)),
    (opAttn (F := F)).result_of_not_mem _ (fun h => absurd (Finset.mem_singleton.mp h) (by decide))]
  rw [show V2 m d (dr main_arg3) = m (d, dr main_arg3) from V2_of_ne m d _ (by decide) (by decide)]

theorem Vb_phi : Vb m d main_v5 = truncf .bf16 (m ((d : Thread nD τ).loc main_arg4)) bitsLt_bf16_f32 := by
  unfold Vb V6
  refine (StableHlo.unary_result _ _ _ _ _ _).trans ?_
  rw [(opV16 (F := F)).result_of_not_mem _ (fun h => absurd (Finset.mem_singleton.mp h) (by decide)),
    (opAttn16 (F := F)).result_of_not_mem _ (fun h => absurd (Finset.mem_singleton.mp h) (by decide)),
    (opAttn (F := F)).result_of_not_mem _ (fun h => absurd (Finset.mem_singleton.mp h) (by decide))]
  rw [show V2 m d (dr main_arg4) = m (d, dr main_arg4) from V2_of_ne m d _ (by decide) (by decide)]

theorem Vb_arg (b : Ref sig .tc) (h0 : b ≠ main_v0) (h1 : b ≠ main_v1) (h2 : b ≠ main_v2) (h3 : b ≠ main_v3) (h4 : b ≠ main_v4) (h5 : b ≠ main_v5) :
    Vb m d b = m ((d : Thread nD τ).loc b) := by
  unfold Vb
  rw [V6_of_ne m d _ (fun e => h2 (dr_inj e)) (fun e => h3 (dr_inj e)) (fun e => h4 (dr_inj e)) (fun e => h5 (dr_inj e)),
    V2_of_ne m d _ (fun e => h0 (dr_inj e)) (fun e => h1 (dr_inj e))]

/-! ## The result -/

/-- What the program computes: the table's rows gathered by number, and the TensorCore call's block of them. -/
def kern (ix : S8x512.Idx → BitVec 32) (attn : S8x512.Idx → F .f32) (tb : S100001x128.Idx → F .f32) (vv : S128x2048.Idx → F .f32)
    (phi : S256x2048.Idx → F .f32) (bwd : S16.Idx → F .f32) (bws : S1.Idx → F .f32) : S8x256.Idx → F .f32 :=
  outBlk (gath (shapeCast S4096 ix shapeCasts_S8x512_S4096) tb) (truncf .bf16 (shapeCast S1x8x512 attn shapeCasts_S8x512_S1x8x512) bitsLt_bf16_f32)
    (truncf .bf16 vv bitsLt_bf16_f32) (truncf .bf16 phi bitsLt_bf16_f32) (fun k => bwd (ix1 k)) (bws (ix1 0))

/-- The program's value on device `d`'s arguments. -/
abbrev kernAt : S8x256.Idx → F .f32 :=
  kern (m ((d : Thread nD τ).loc main_arg0)) (m ((d : Thread nD τ).loc main_arg1)) (m ((d : Thread nD τ).loc main_arg2)) (m ((d : Thread nD τ).loc main_arg3))
    (m ((d : Thread nD τ).loc main_arg4)) (m ((d : Thread nD τ).loc main_arg5)) (m ((d : Thread nD τ).loc main_arg6))

theorem V7_out : V7 m d (dr main_v6) = kernAt m d := by
  unfold V7
  rw [Function.update_self, out_eq]
  unfold res kernAt kern
  rw [stg0_eq, stg1_eq, stg2_eq, stg3_eq, stg4_eq, stg5_eq, Vb_rows, Vb_attn, Vb_v, Vb_phi,
    Vb_arg m d main_arg5 (by decide) (by decide) (by decide) (by decide) (by decide) (by decide),
    Vb_arg m d main_arg6 (by decide) (by decide) (by decide) (by decide) (by decide) (by decide)]

/-- Every row number that device `c` is given names a row of the table. -/
def RowsExist : Prop := ∀ (c : Dev nD) (j : S8x512.Idx), (m ((c : Thread nD τ).loc main_arg0) j : BitVec 32).toNat < 100001

/-- The program's run: its arguments unchanged, its result at `kernAt`, every semaphore at zero. -/
theorem run_main [∀ e, Nonempty (Elt F e)] (h : RowsExist m) :
    θ_run (defs (F := F)) (threads (F := F)) ⟨m, fun _ => 0, ρ⟩ (fun r => (∀ c : Dev nD,
        r.2.mem ((c : Thread nD τ).loc main_v6) = kernAt m c
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)
        ∧ r.2.mem ((c : Thread nD τ).loc main_arg5) = m ((c : Thread nD τ).loc main_arg5)
        ∧ r.2.mem ((c : Thread nD τ).loc main_arg6) = m ((c : Thread nD τ).loc main_arg6))
      ∧ r.2.sem = fun _ => 0) := by
  refine (θ_run (defs (F := F)) _ _).mono (fun r hr => ⟨fun c => ?_, hr.2⟩) (run_all m ρ ?_)
  · have arg : ∀ b : Ref sig .tc, dr b ∈ ucRefs τ sig → V7 m c (dr b) = m (c, dr b) → r.2.mem ((c : Thread nD τ).loc b) = m ((c : Thread nD τ).loc b) :=
      fun b hb e => (hr.1 c (dr b) hb).trans e
    refine ⟨(hr.1 c (dr main_v6) (by decide)).trans (V7_out m c), arg _ (by decide) ?_, arg _ (by decide) ?_, arg _ (by decide) ?_, arg _ (by decide) ?_,
      arg _ (by decide) ?_, arg _ (by decide) ?_, arg _ (by decide) ?_⟩ <;>
    exact V7_arg m c _ (by decide) (by decide) (by decide) (by decide) (by decide) (by decide) (by decide)
  · intro c j
    rw [vi_eq]
    exact h c _

end Cert.Proof.Run

end
-- ==== Proof.Frames.lean ====
/-
  The preconditions read as statements about the row numbers and the bins' weights, and the claims that need no more than the
  programs' runs: each program ends with its arguments unchanged, and the kernel's idealization names two constants.
-/
module

public import proofs.«01_k».proof.Defs
public import proofs.«01_k».proof.Proof.Value
public import proofs.«01_k».proof.Proof.Gen.Kernel
public import proofs.«01_k».proof.Proof.Gen.ReferenceIdeal.Run
public import proofs.«01_k».proof.Proof.Gen.Pre_rows_exist
public import proofs.«01_k».proof.Proof.Gen.Pre_rows_exist_equal_bins
public import Idealize.ShloMosaic.Lib.Quiescent

@[expose] public section

set_option maxRecDepth 16384

noncomputable section

namespace Cert.Proof.Frames

open Idealize.ShloMosaic Idealize.ShloMosaic.TcCoe Idealize.SL.Sem

/-! ## Row numbers -/

/-- One truth value and another are both true when their conjunction is. -/
theorem and_one : ∀ {a b : BitVec 1}, IntOp.andi a b = 1#1 → a = 1#1 ∧ b = 1#1 := by decide

/-- A truth value made of a proposition is true exactly when the proposition is. -/
theorem ofBool_one {p : Bool} : BitVec.ofBool p = 1#1 ↔ p = true := by cases p <;> decide

/-- A word that is at least zero and less than the table's height, as a signed number, is less than it as a natural number. -/
theorem row_lt {v : BitVec 32} (h : IntOp.andi (IntOp.cmpi .sge v 0#32) (IntOp.cmpi .slt v 100001#32) = 1#1) : v.toNat < 100001 := by
  obtain ⟨h0, h1⟩ := and_one h
  simp only [IntOp.cmpi, ofBool_one, BitVec.sle_eq_decide, BitVec.slt_eq_decide, decide_eq_true_eq, BitVec.toInt_eq_toNat_cond,
    BitVec.toNat_ofNat, Nat.reducePow, Nat.reduceMod] at h0 h1
  omega

section
variable {F : FTy → Type} [FloatOps F] {a0 : Cert.Pre_rows_exist.S8x512.Idx → BitVec 32} {a1 : FVec F Cert.Pre_rows_exist.S8x512 .f32}
  {a2 : FVec F Cert.Pre_rows_exist.S100001x128 .f32} {a3 : FVec F Cert.Pre_rows_exist.S128x2048 .f32} {a4 : FVec F Cert.Pre_rows_exist.S256x2048 .f32}
  {a5 : FVec F Cert.Pre_rows_exist.S16 .f32} {a6 : FVec F Cert.Pre_rows_exist.S1 .f32}

/-- The first precondition says that every row number names a row of the table. -/
theorem rows_of_rows_exist (h : Cert.Pre_rows_exist.fn (F := F) a0 a1 a2 a3 a4 a5 a6 = fun _ => 1#1) (j) : (a0 j).toNat < 100001 :=
  row_lt (congrFun h j)

/-- The second precondition says so too. -/
theorem rows_of_equal_bins (h : Cert.Pre_rows_exist_equal_bins.fn (F := F) a0 a1 a2 a3 a4 a5 a6 = fun _ => 1#1) (j) : (a0 j).toNat < 100001 :=
  row_lt (and_one (and_one (congrFun h j)).1).1

end

/-! ## The frames -/

/-- The printed kernel's constants stand as they are printed when floats are bit patterns. -/
local instance : Named Bits where
  named _ _ b := FloatOps.ofBits b

set_option maxHeartbeats 1000000

/-- The two programs' body tables are one: the idealized kernel's body differs only in how its constants are named. -/
theorem bodies_eq : Cert.Kernel.defs₀ (F := Bits) = Cert.KernelIdeal.defs₀ (F := Bits) := by
  funext p
  cases p with
  | tc => exact funext fun ℓ => match ℓ with | 0 => rfl | 1 => rfl
  | scScalar c => exact funext fun ℓ => match ℓ with | 0 => rfl | 1 => rfl
  | scVector c s => exact funext fun ℓ => match ℓ with | 0 => rfl | 1 => rfl

/-- So are the tables with the launch's own labels. -/
theorem defs_eq : Cert.Kernel.defs (F := Bits) = Cert.KernelIdeal.defs (F := Bits) :=
  congrArg (fun D => (Cert.Kernel.sc (F := Bits)).defs (Pipeline.defs (Cert.Kernel.pcfgs (F := Bits)) D)) bodies_eq

/-- The two host programs are one. -/
theorem main_eq : Cert.Kernel.main (F := Bits) = Cert.KernelIdeal.main (F := Bits) := rfl

/-- And so are the threads. -/
theorem threads_eq : Cert.Kernel.threads (F := Bits) = Cert.KernelIdeal.threads (F := Bits) :=
  congrArg (fun M => (Cert.Kernel.sc (F := Bits)).threads M) main_eq

instance (e) : Nonempty (Elt Bits e) := by cases e <;> exact ⟨0⟩

/-- The kernel as printed runs, and ends with its arguments unchanged and every semaphore at zero. -/
theorem frame_kernel : Cert.quiescent_Kernel := by
  intro m ρ h
  have run := Run.run_main (F := Bits) m ρ fun c j => rows_of_rows_exist (h c) j
  rw [defs_eq, threads_eq]
  refine (θ_run (Cert.KernelIdeal.defs (F := Bits)) _ _).mono ?_ run
  exact fun _ hr => ⟨fun c => (hr.1 c).2, hr.2⟩

/-- The kernel's idealization runs, and ends with its arguments unchanged and every semaphore at zero. -/
theorem frame_ideal : Cert.quiescent_KernelIdeal := fun m ρ h =>
  (θ_run Cert.KernelIdeal.defs _ _).mono (fun _ hr => ⟨fun c => (hr.1 c).2, hr.2⟩)
    (Run.run_main (F := Ideal) m ρ fun c j => rows_of_rows_exist (h c) j)

/-- So it does under the second precondition. -/
theorem frame_ideal_bins : Cert.quiescent_KernelIdeal_pre_rows_exist_equal_bins := fun m ρ h =>
  (θ_run Cert.KernelIdeal.defs _ _).mono (fun _ hr => ⟨fun c => (hr.1 c).2, hr.2⟩)
    (Run.run_main (F := Ideal) m ρ fun c j => rows_of_equal_bins (h c) j)

/-- The reference runs, and ends with its arguments unchanged and every semaphore at zero. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- So it does under the second precondition. -/
theorem frame_reference_bins : Cert.quiescent_ReferenceIdeal_pre_rows_exist_equal_bins := fun m ρ _ => frame_reference m ρ trivial

/-- The idealization's two named constants are the reals they were computed from. -/
theorem preserves : Cert.preserves_Kernel_KernelIdeal :=
  ⟨IdealRules.named_const.statement Cert.KernelIdeal.κ "inv_step" .f32 0x411655E8#32 ((1400 / 149 : ℝ) : EReal) rfl,
    IdealRules.named_const.statement Cert.KernelIdeal.κ "offset" .f32 0x409655E8#32 ((700 / 149 : ℝ) : EReal) rfl⟩

end Cert.Proof.Frames

end
-- ==== Proof.Bins.lean ====
/-
  The bins of one value over the extended reals: the running sums that the fifteen thresholds select are the clipped line
  that the kernel evaluates.
-/
module

public import Idealize.ShloMosaic.PureOps.Ideal
public import Mathlib.Tactic.IntervalCases
public import Mathlib.Tactic.Lift
public import Mathlib.Tactic.Linarith

@[expose] public section

noncomputable section

namespace Cert.Proof.Bins

open Idealize.ShloMosaic

/-- The sum of the start value and the first `k + 1` weights. -/
def runSum (s : EReal) (u : ℕ → EReal) : ℕ → EReal
  | 0 => s + u 0
  | k + 1 => runSum s u k + u (k + 1)

/-- Threshold `i`, of fifteen from -1/2 to 99/100. -/
def thr (i : ℕ) : ℝ := -1 / 2 + i * (149 / 1400)

/-- How many of the fifteen thresholds are at most `x`. -/
def dig (x : EReal) : ℕ := (Finset.univ.filter fun i : Fin 15 => (thr i.val : EReal) ≤ x).card

/-- The line that the kernel evaluates, clipped to the first and the last running sum. -/
def clipped (s : EReal) (u : ℕ → EReal) (x : EReal) : EReal :=
  min (runSum s u 15) (max (runSum s u 0)
    (runSum s u 1 + (runSum s u 2 - runSum s u 1) * Ideal.liftRound Int.floor (x * ((1400 / 149 : ℝ) : EReal) + ((700 / 149 : ℝ) : EReal))))

/-- A threshold is at most a real number where its place is at most the floor of the number's place. -/
theorem thr_le (x : ℝ) (i : ℕ) : thr i ≤ x ↔ (i : ℤ) ≤ ⌊x * (1400 / 149) + 700 / 149⌋ := by
  rw [Int.le_floor, thr]
  push_cast
  constructor <;> intro h <;> linarith

theorem dig_le (x : EReal) : dig x ≤ 15 := (Finset.card_filter_le _ _).trans (by simp)

theorem dig_bot : dig ⊥ = 0 := by simp [dig]

theorem dig_top : dig ⊤ = 15 := by simp [dig]

/-- The thresholds at most a real number, counted by the floor of the number's place. -/
theorem dig_real (x : ℝ) : dig x = (Finset.univ.filter fun i : Fin 15 => ((i.val : ℕ) : ℤ) ≤ ⌊x * (1400 / 149) + 700 / 149⌋).card := by
  unfold dig
  refine congrArg Finset.card (Finset.filter_congr fun i _ => ?_)
  rw [EReal.coe_le_coe_iff, thr_le]

theorem count_neg {n : ℤ} (h : n < 0) : (Finset.univ.filter fun i : Fin 15 => ((i.val : ℕ) : ℤ) ≤ n).card = 0 := by
  rw [Finset.card_eq_zero, Finset.filter_eq_empty_iff]
  intro i _
  omega

theorem count_large {n : ℤ} (h : 14 ≤ n) : (Finset.univ.filter fun i : Fin 15 => ((i.val : ℕ) : ℤ) ≤ n).card = 15 := by
  rw [Finset.filter_true_of_mem fun i _ => by have := i.isLt; omega]
  simp

theorem count_mid (n : ℕ) (h : n < 14) : (Finset.univ.filter fun i : Fin 15 => ((i.val : ℕ) : ℤ) ≤ (n : ℤ)).card = n + 1 := by
  interval_cases n <;> decide

/-! ## The running sums -/

section Sums

variable {s : EReal} {u : ℕ → EReal}

theorem runSum_bot (h : runSum s u 0 = ⊥) (k : ℕ) : runSum s u k = ⊥ := by
  induction k with
  | zero => exact h
  | succ k ih => rw [runSum, ih, EReal.bot_add]

theorem runSum_top (hu : ∀ i, 0 ≤ u i) (h : runSum s u 0 = ⊤) (k : ℕ) : runSum s u k = ⊤ := by
  induction k with
  | zero => exact h
  | succ k ih => rw [runSum, ih, EReal.top_add_of_ne_bot (ne_of_gt (lt_of_lt_of_le EReal.bot_lt_zero (hu _)))]

/-- With an infinite common weight every running sum from the third on is infinite. -/
theorem runSum_inf (hu : ∀ i, 0 ≤ u i) {a p : ℝ} (h0 : runSum s u 0 = a) (h1 : u 1 = p) (h2 : u 2 = ⊤) (k : ℕ) : runSum s u (k + 2) = ⊤ := by
  induction k with
  | zero => rw [runSum, runSum, h0, h1, h2, ← EReal.coe_add, EReal.coe_add_top]
  | succ k ih => rw [runSum, ih, EReal.top_add_of_ne_bot (ne_of_gt (lt_of_lt_of_le EReal.bot_lt_zero (hu _)))]

/-- With real weights the running sums lie on a line from the second on, to the fifteenth. -/
theorem runSum_line {a p q : ℝ} (h0 : runSum s u 0 = a) (h1 : u 1 = p) (h2 : ∀ i, 2 ≤ i → i < 15 → u i = q) :
    ∀ k, k < 14 → runSum s u (k + 1) = ((a + p + q * k : ℝ) : EReal) := by
  intro k
  induction k with
  | zero => intro _; rw [runSum, h0, h1, ← EReal.coe_add]; simp
  | succ k ih =>
    intro hk
    rw [runSum, ih (by omega), h2 _ (by omega) (by omega), ← EReal.coe_add]
    refine congrArg _ ?_
    push_cast
    ring

end Sums

theorem clip_mid {l z h : EReal} (h1 : l ≤ z) (h2 : z ≤ h) : min h (max l z) = z := by
  rw [max_eq_right h1, min_eq_right h2]

theorem clip_low {l z h : EReal} (h1 : z ≤ l) (h2 : l ≤ h) : min h (max l z) = l := by
  rw [max_eq_left h1, min_eq_right h2]

theorem clip_high {l z h : EReal} (h1 : h ≤ z) : min h (max l z) = h :=
  min_eq_left (h1.trans (le_max_right _ _))

/-- The clipped line where the common weight is infinite. -/
theorem clipped_inf {s : EReal} {u : ℕ → EReal} (hu : ∀ i, 0 ≤ u i) {a p : ℝ} (h0 : runSum s u 0 = a) (h1 : u 1 = p) (h2 : u 2 = ⊤)
    (x : EReal) : clipped s u x = runSum s u (dig x) := by
  have hp : 0 ≤ p := by have := hu 1; rw [h1] at this; exact_mod_cast this
  have w1 : runSum s u 1 = ((a + p : ℝ) : EReal) := by rw [runSum, h0, h1, ← EReal.coe_add]
  have w := runSum_inf hu h0 h1 h2
  have hb : runSum s u 2 - runSum s u 1 = ⊤ := by rw [w 0, w1]; exact EReal.top_sub_coe _
  unfold clipped
  rw [hb, w 13, h0, w1, min_eq_right le_top]
  induction x with
  | bot =>
    rw [dig_bot, h0, EReal.bot_mul_coe_of_pos (by norm_num), EReal.bot_add]
    show max _ (_ + ⊤ * ⊥) = _
    rw [EReal.top_mul_bot, EReal.add_bot, max_eq_left bot_le]
  | top =>
    rw [dig_top, w 13, EReal.top_mul_coe_of_pos (by norm_num), EReal.top_add_coe]
    show max _ (_ + ⊤ * ⊤) = _
    rw [EReal.top_mul_top, EReal.coe_add_top, max_eq_right le_top]
  | coe x =>
    rw [dig_real, ← EReal.coe_mul, ← EReal.coe_add]
    show max _ (_ + ⊤ * (((⌊x * (1400 / 149) + 700 / 149⌋ : ℤ) : ℝ) : EReal)) = _
    generalize ⌊x * (1400 / 149) + 700 / 149⌋ = n
    rcases lt_trichotomy n 0 with hn | rfl | hn
    · rw [count_neg hn, h0, EReal.top_mul_coe_of_neg (by exact_mod_cast hn), EReal.add_bot, max_eq_left bot_le]
    · rw [show (0 : ℤ) = ((0 : ℕ) : ℤ) from rfl, count_mid 0 (by norm_num), w1]
      simp only [Nat.cast_zero, Int.cast_zero, EReal.coe_zero, mul_zero, add_zero]
      exact max_eq_right (EReal.coe_le_coe_iff.2 (by linarith))
    · rw [EReal.top_mul_coe_of_pos (by exact_mod_cast hn), EReal.coe_add_top, max_eq_right le_top]
      rcases lt_or_ge n 14 with h | h
      · lift n to ℕ using hn.le
        rw [count_mid n (by exact_mod_cast h)]
        obtain ⟨k, rfl⟩ : ∃ k, n = k + 1 := ⟨n - 1, by omega⟩
        exact (w k).symm
      · rw [count_large h, w 13]

/-- The clipped line where every weight is real. -/
theorem clipped_real {s : EReal} {u : ℕ → EReal} {a p q r : ℝ} (h0 : runSum s u 0 = a) (h1 : u 1 = p) (h2 : ∀ i, 2 ≤ i → i < 15 → u i = q)
    (h3 : u 15 = r) (hp : 0 ≤ p) (hr : 0 ≤ r) (hpq : p ≤ q) (hrq : r ≤ q) (x : EReal) : clipped s u x = runSum s u (dig x) := by
  have w := runSum_line h0 h1 h2
  have w15 : runSum s u 15 = ((a + p + q * 13 + r : ℝ) : EReal) := by
    rw [runSum, w 13 (by norm_num), h3, ← EReal.coe_add]
    norm_num
  have w1 : runSum s u 1 = ((a + p : ℝ) : EReal) := by rw [w 0 (by norm_num)]; norm_num
  have hb : runSum s u 2 - runSum s u 1 = (q : EReal) := by
    rw [w 1 (by norm_num), w1, ← EReal.coe_sub]
    refine congrArg _ ?_
    push_cast
    ring
  have hlh : ((a : ℝ) : EReal) ≤ ((a + p + q * 13 + r : ℝ) : EReal) := EReal.coe_le_coe_iff.2 (by linarith)
  unfold clipped
  rw [hb, w15, h0, w1]
  induction x with
  | bot =>
    rw [dig_bot, h0, EReal.bot_mul_coe_of_pos (by norm_num), EReal.bot_add]
    show min _ (max _ (_ + _ * ⊥)) = _
    refine clip_low ?_ hlh
    rcases (hp.trans hpq).lt_or_eq with hq | rfl
    · rw [EReal.coe_mul_bot_of_pos hq, EReal.add_bot]; exact bot_le
    · rw [EReal.coe_zero, zero_mul, add_zero]; exact EReal.coe_le_coe_iff.2 (by linarith)
  | top =>
    rw [dig_top, w15, EReal.top_mul_coe_of_pos (by norm_num), EReal.top_add_coe]
    show min _ (max _ (_ + _ * ⊤)) = _
    refine clip_high ?_
    rcases (hp.trans hpq).lt_or_eq with hq | rfl
    · rw [EReal.coe_mul_top_of_pos hq, EReal.coe_add_top]; exact le_top
    · rw [EReal.coe_zero, zero_mul (⊤ : EReal), add_zero ((a + p : ℝ) : EReal)]; exact EReal.coe_le_coe_iff.2 (by linarith)
  | coe x =>
    rw [dig_real, ← EReal.coe_mul, ← EReal.coe_add]
    show min _ (max _ (_ + _ * (((⌊x * (1400 / 149) + 700 / 149⌋ : ℤ) : ℝ) : EReal))) = _
    generalize ⌊x * (1400 / 149) + 700 / 149⌋ = n
    rw [← EReal.coe_mul, ← EReal.coe_add]
    have hq : 0 ≤ q := hp.trans hpq
    rcases lt_or_ge n 0 with hn | hn
    · rw [count_neg hn, h0]
      have hn' : (n : ℝ) ≤ -1 := by exact_mod_cast (by omega : n ≤ -1)
      exact clip_low (EReal.coe_le_coe_iff.2 (by nlinarith)) hlh
    · rcases lt_or_ge n 14 with h | h
      · lift n to ℕ using hn
        have h' : n < 14 := by exact_mod_cast h
        have hn' : (n : ℝ) ≤ 13 := by exact_mod_cast (by omega : n ≤ 13)
        have hn0 : (0 : ℝ) ≤ n := Nat.cast_nonneg n
        rw [count_mid n h', w n h', Int.cast_natCast]
        exact clip_mid (EReal.coe_le_coe_iff.2 (by nlinarith)) (EReal.coe_le_coe_iff.2 (by nlinarith))
      · have hn' : (14 : ℝ) ≤ n := by exact_mod_cast h
        rw [count_large h, w15]
        exact clip_high (EReal.coe_le_coe_iff.2 (by nlinarith))

/-- Where the weights are not negative, the third to the fifteenth are equal, the second is finite and neither it nor the
    sixteenth is larger than those, the clipped line at a value is the running sum that the value's bin selects. -/
theorem clipped_eq {s : EReal} {u : ℕ → EReal} (hu : ∀ i, 0 ≤ u i) (h1 : u 1 ≤ u 2) (h15 : u 15 ≤ u 2) (hf : u 1 < ⊤)
    (h2 : ∀ i, 2 ≤ i → i < 15 → u i = u 2) (x : EReal) : clipped s u x = runSum s u (dig x) := by
  induction hA : runSum s u 0 with
  | bot => unfold clipped; simp only [runSum_bot hA, EReal.bot_add]; simp
  | top =>
    unfold clipped
    rw [runSum_top hu hA 15, runSum_top hu hA (dig x), hA]
    simp
  | coe a =>
    have nb : ∀ i, u i ≠ ⊥ := fun i => ne_of_gt (lt_of_lt_of_le EReal.bot_lt_zero (hu i))
    lift u 1 to ℝ using ⟨hf.ne, nb 1⟩ with p hp
    by_cases hq : u 2 = ⊤
    · exact clipped_inf hu hA hp.symm hq x
    · have hr : u 15 ≠ ⊤ := fun e => hq (top_le_iff.1 (e ▸ h15))
      obtain ⟨q, eq⟩ : ∃ q : ℝ, u 2 = q := ⟨_, (EReal.coe_toReal hq (nb 2)).symm⟩
      obtain ⟨r, er⟩ : ∃ r : ℝ, u 15 = r := ⟨_, (EReal.coe_toReal hr (nb 15)).symm⟩
      have a1 := hu 1
      have a15 := hu 15
      rw [eq] at h1 h15
      rw [er] at h15 a15
      rw [← hp] at a1
      exact clipped_real hA hp.symm (fun i hi hi' => (h2 i hi hi').trans eq) er (by exact_mod_cast a1) (by exact_mod_cast a15)
        (by exact_mod_cast h1) (by exact_mod_cast h15) x

end Cert.Proof.Bins
-- ==== Proof.KernelAt.lean ====
/-
  The kernel's value over the extended reals at one place of the result.
-/
module

public import proofs.«01_k».proof.Proof.Value
public import proofs.«01_k».proof.Proof.Bins
public import Idealize.ShloMosaic.Lib.Pointwise

@[expose] public section

set_option maxRecDepth 16384

noncomputable section

namespace Cert.Proof.KernelAt

open Cert.KernelIdeal Cert.KernelIdeal.Gen Cert.Proof.Run Cert.Proof.Bins

open Idealize.ShloMosaic

/-- The weights of the bins, none below zero: weight `i` of sixteen, and zero past them. -/
def weight (w : S16.Idx → EReal) (i : ℕ) : EReal := if h : i < 16 then max (w (ix1 ⟨i, h⟩)) 0 else 0

section Row

variable (E : S4096x128.Idx → EReal) (A : S1x8x512.Idx → EReal) (W : S128x2048.Idx → EReal) (Φ : S256x2048.Idx → EReal)
variable (w : S16.Idx → EReal) (s : EReal)

/-- A weight by its number. -/
theorem weight_eq (i : ℕ) (h : i < 16) : weight w i = max (w (ix1 ⟨i, h⟩)) 0 := dif_pos h

theorem lo_eq : lo (F := Ideal) (fun k => w (ix1 k)) s = runSum s (weight w) 0 := by
  unfold lo k1_pay3
  pointwise
  rfl

theorem c0_eq : c0 (F := Ideal) (fun k => w (ix1 k)) s = runSum s (weight w) 1 := by
  unfold c0 k1_pay4 k1_pay3
  pointwise
  rfl

theorem beta_eq : beta (F := Ideal) (fun k => w (ix1 k)) s = runSum s (weight w) 2 - runSum s (weight w) 1 := by
  unfold beta k1_pay8
  rw [c0_eq]
  unfold k1_pay5 k1_pay4 k1_pay3
  pointwise
  rfl

theorem hi_eq : hi (F := Ideal) (fun k => w (ix1 k)) s = runSum s (weight w) 15 := by
  unfold hi k1_pay7 k1_pay6 k1_pay5 k1_pay4 k1_pay3
  pointwise
  rfl

/-- One place of the row that batch entry `j` stores, for any least value, value at floor zero, greatest value and step. -/
theorem row_at (j : Fin 8) (v : Fin 2048) (L C H T : EReal) :
    k1_pay12 (F := Ideal) L C H T (k1_pay9 (F := Ideal) W) (embRows (F := Ideal) E j) (attnRow (F := Ideal) A j) (ix2 0 v)
      = ∑ n : Fin 512, A (ix3 0 j n) * min H (max L (C + T * Ideal.liftRound Int.floor
          ((∑ k : Fin 128, E (ix2 ⟨512 * j.val + n.val, by omega⟩ k) * W (ix2 k v)) * ((1400 / 149 : ℝ) : EReal) + ((700 / 149 : ℝ) : EReal)))) := by
  unfold k1_pay12 k1_pay9
  rw [show (Named.named (F := Ideal) κ "inv_step" 0x411655E8#32 : Ideal .f32) = ((1400 / 149 : ℝ) : EReal) from
      IdealRules.named_const.ideal_named_scalar _ _ _ _ rfl,
    show (Named.named (F := Ideal) κ "offset" 0x409655E8#32 : Ideal .f32) = ((700 / 149 : ℝ) : EReal) from
      IdealRules.named_const.ideal_named_scalar _ _ _ _ rfl]
  pointwise [embRows, attnRow]

/-- One place of the result block: the pooled row against the filter's. -/
theorem out_at (P : S8x2048.Idx → EReal) (b : Fin 8) (f : Fin 256) :
    k1_pay2 (F := Ideal) P Φ (ix2 b f) = ∑ v : Fin 2048, P (ix2 b v) * Φ (ix2 f v) := by
  unfold k1_pay2
  pointwise

end Row

section Whole

variable (ix : S8x512.Idx → BitVec 32) (attn : S8x512.Idx → EReal) (tb : S100001x128.Idx → EReal) (vv : S128x2048.Idx → EReal)
variable (phi : S256x2048.Idx → EReal) (bwd : S16.Idx → EReal) (bws : S1.Idx → EReal)

/-- The similarity of word `n` of batch entry `b` to vocabulary word `v`. -/
def sim (b : Fin 8) (n : Fin 512) (v : Fin 2048) : EReal :=
  ∑ k : Fin 128, tb (ix2 ⟨(ix (ix2 b n)).toNat % 100001, Nat.mod_lt _ (by norm_num)⟩ k) * vv (ix2 k v)

/-- One place of the kernel's result. -/
theorem kern_at (b : Fin 8) (f : Fin 256) : kern (F := Ideal) ix attn tb vv phi bwd bws (ix2 b f)
    = ∑ v : Fin 2048, (∑ n : Fin 512, attn (ix2 b n) * clipped (bws (ix1 0)) (weight bwd) (sim ix tb vv b n v)) * phi (ix2 f v) := by
  unfold kern outBlk
  rw [out_at]
  refine Finset.sum_congr rfl fun v _ => ?_
  unfold pooled pooledRow
  rw [lo_eq, c0_eq, beta_eq, hi_eq, row_at]
  refine congrArg₂ _ (Finset.sum_congr rfl fun n _ => ?_) rfl
  unfold clipped sim gath
  pointwise

end Whole

end Cert.Proof.KernelAt
-- ==== Proof.Consts.lean ====
/-
  The extended reals that the float words of the reference and of the second precondition stand for.
-/
module

public import Idealize.ShloMosaic.PureOps.Ideal

@[expose] public section

noncomputable section

namespace Cert.Proof.Consts

open Idealize.ShloMosaic

/-- The word of the first midpoint is -1/2. -/
theorem neg_half : Ideal.ofBits .f32 0xBF000000#32 = ((-1 / 2 : ℝ) : EReal) := by
  simp [Ideal.ofBits, Ideal.ieee, -EReal.coe_mul]; norm_num

/-- The word of the midpoints' factor is 149. -/
theorem num_149 : Ideal.ofBits .f32 0x43150000#32 = ((149 : ℝ) : EReal) := by
  simp [Ideal.ofBits, Ideal.ieee, -EReal.coe_mul]; norm_num

/-- The word of the midpoints' divisor is 1400. -/
theorem num_1400 : Ideal.ofBits .f32 0x44AF0000#32 = ((1400 : ℝ) : EReal) := by
  simp [Ideal.ofBits, Ideal.ieee, -EReal.coe_mul]; norm_num

/-- The word that bounds the second weight is the top element. -/
theorem infinity : Ideal.ofBits .f32 0x7F800000#32 = ⊤ := by
  simp [Ideal.ofBits, Ideal.ieee]

end Cert.Proof.Consts

end
-- ==== Proof.Equal.lean ====
/-
  The second precondition read as statements about the bins' weights over the extended reals.
-/
module

public import proofs.«01_k».proof.Proof.Frames
public import proofs.«01_k».proof.Proof.KernelAt
public import proofs.«01_k».proof.Proof.Consts
public import Idealize.ShloMosaic.Lib.ReduceAll

@[expose] public section

set_option maxRecDepth 16384

noncomputable section

namespace Cert.Proof.Equal

open Cert.Pre_rows_exist_equal_bins Cert.Pre_rows_exist_equal_bins.Gen
open Cert.Proof.Consts Cert.Proof.Frames Cert.Proof.KernelAt

open Idealize.ShloMosaic

variable {a0 : S8x512.Idx → BitVec 32} {a1 : S8x512.Idx → EReal} {a2 : S100001x128.Idx → EReal} {a3 : S128x2048.Idx → EReal}
  {a4 : S256x2048.Idx → EReal} {a5 : S16.Idx → EReal} {a6 : S1.Idx → EReal}

/-- Truth values are all true where their conjunction is. -/
theorem fold_one {ι : Type} (f : ι → BitVec 1) (S : Finset ι) (h : S.fold IntOp.andi 1#1 f = 1#1) : ∀ i ∈ S, f i = 1#1 := by
  induction S using Finset.cons_induction with
  | empty => simp
  | cons a S ha ih =>
    rw [Finset.fold_cons] at h
    intro i hi
    rcases Finset.mem_cons.1 hi with rfl | hi
    · exact (and_one h).1
    · exact ih (and_one h).2 i hi

/-- A truth value made of a decided proposition is true only where the proposition is. -/
theorem of_one {p : Prop} [Decidable p] (h : BitVec.ofBool (decide p) = 1#1) : p := of_decide_eq_true (ofBool_one.1 h)

/-- Under the second precondition the third to the fifteenth weight are equal, neither the second nor the sixteenth is
    larger than those, and the second is finite. -/
theorem weights_of_equal_bins (h : fn (F := Ideal) a0 a1 a2 a3 a4 a5 a6 = fun _ => 1#1) :
    (∀ i, 2 ≤ i → i < 15 → weight a5 i = weight a5 2) ∧ weight a5 1 ≤ weight a5 2 ∧ weight a5 15 ≤ weight a5 2 ∧ weight a5 1 < ⊤ := by
  have e := congrFun h (ix2 0 0)
  unfold fn fn_part1 at e
  pointwise at e
  rw [infinity] at e
  obtain ⟨e1, e2⟩ := and_one e
  obtain ⟨e3, e4⟩ := and_one e2
  obtain ⟨e5, e6⟩ := and_one e3
  have e7 := fold_one _ _ (and_one e1).2
  refine ⟨fun i h2 h15 => ?_, of_one e5, of_one e6, of_one e4⟩
  rw [weight_eq a5 i (by omega), weight_eq a5 2 (by omega)]
  obtain ⟨k, rfl⟩ : ∃ k, i = 2 + k := ⟨i - 2, by omega⟩
  exact of_one (e7 ⟨k, by omega⟩ (Finset.mem_univ _))

end Cert.Proof.Equal

end
-- ==== Proof.Takes.lean ====
/-
  The reference's two takes at one place: a table read at an index vector that lies inside it.
-/
module

public import proofs.«01_k».proof.Proof.Gen.ReferenceIdeal
public import Idealize.ShloMosaic.Lib.Pointwise
public import Idealize.ShloMosaic.Lib.ReduceAll
public import Idealize.ShloMosaic.Lib.Tactic.WordOmega

@[expose] public section

set_option maxRecDepth 16384

noncomputable section

namespace Cert.Proof.Takes

open Cert.ReferenceIdeal Cert.ReferenceIdeal.Gen

open Idealize.ShloMosaic

/-! ## Words -/

/-- A word below 2^31 is not negative. -/
theorem slt_zero {w : BitVec 32} (h : w.toNat < 2 ^ 31) : IntOp.cmpi .slt w 0#32 = 0#1 := by
  word_omega

/-- A word at most a bound below 2^31 lies between zero and the bound. -/
theorem in_range {w c : BitVec 32} (h : w.toNat ≤ c.toNat) (hc : c.toNat < 2 ^ 31) :
    IntOp.andi (IntOp.cmpi .sge w 0#32) (IntOp.cmpi .sle w c) = 1#1 := by
  word_omega

theorem toInt_toNat {w : BitVec 32} (h : w.toNat < 2 ^ 31) : w.toInt.toNat = w.toNat := by
  rw [BitVec.toInt_eq_toNat_of_lt (by omega), Int.toNat_natCast]

/-! ## Rows of the table -/

/-- The row numbers as the take reads them: one below zero counts from the end. -/
def rowNumbers (ix : S8x512.Idx → BitVec 32) : S8x512x1.Idx → BitVec 32 :=
  broadcastInDim S8x512x1 ![0, 1] bcast_S8x512_S8x512x1_0_1
    (select (cmpi .slt ix (broadcastInDim S8x512 ![] bcast_S_S8x512 (constantI S_ 32 0#32)))
      (addi ix (broadcastInDim S8x512 ![] bcast_S_S8x512 (constantI S_ 32 100001#32))) ix)

/-- Which of the row numbers name a row. -/
def rowsIn (J : S8x512x1.Idx → BitVec 32) : S8x512.Idx → BitVec 1 :=
  Host.reduce IntOp.andi
    (andi (cmpi .sge J (broadcastInDim S8x512x1 ![] bcast_S_S8x512x1 (constantI S_ 32 0#32)))
      (cmpi .sle J (broadcastInDim S8x512x1 ![0, 1, 2] bcast_S1x1x1_S8x512x1_0_1_2
        (broadcastInDim S1x1x1 ![2] bcast_S1_S1x1x1_2 (constantI S1 32 100000#32)))))
    (constantI S_ 1 1#1) reducesTo_S8x512x1_S8x512_d2 h_S_

/-- The rows taken. -/
def rowsTaken (ix : S8x512.Idx → BitVec 32) (tb : S100001x128.Idx → EReal) : S8x512x128.Idx → EReal :=
  select (broadcastInDim S8x512x128 ![0, 1] bcast_S8x512_S8x512x128_0_1 (rowsIn (rowNumbers ix)))
    (Host.gather gather_S100001x128_S8x512x1_S8x512x128_2_0_n_n_0_2_1128 tb (rowNumbers ix))
    (broadcastInDim S8x512x128 ![] bcast_S_S8x512x128 (constant (F := Ideal) S_ .f32 0x7FC00000#32))

theorem rowNumbers_at (ix : S8x512.Idx → BitVec 32) (b : Fin 8) (n : Fin 512) (z : Fin 1) (h : (ix (ix2 b n)).toNat < 100001) :
    rowNumbers ix (ix3 b n z) = ix (ix2 b n) := by
  unfold rowNumbers
  pointwise
  rw [slt_zero (by omega)]
  rfl

theorem rowsIn_at (J : S8x512x1.Idx → BitVec 32) (h : ∀ j, (J j).toNat < 100001) (j : S8x512.Idx) : rowsIn J j = 1#1 := by
  refine Host.reduce_andi_one _ _ _ _ _ rfl fun i => ?_
  idx_vars i
  pointwise
  exact in_range (by have := h (ix3 i0 i1 i2); show _ ≤ 100000; omega) (by decide)

/-- The gather's one start index for a place of the result: the place's row number. -/
theorem rows_start (b : Fin 8) (n : Fin 512) (k : Fin 128) (c) :
    gather_S100001x128_S8x512x1_S8x512x128_2_0_n_n_0_2_1128.siIdx (ix3 b n k) c = ix3 b n 0 := by
  funext a
  match a with
  | ⟨0, _⟩ => exact Fin.ext rfl
  | ⟨1, _⟩ => exact Fin.ext rfl
  | ⟨2, _⟩ => exact Fin.ext (by have h : c.val < 1 := c.isLt; show c.val = 0; omega)

theorem gather_rows_at (tb : S100001x128.Idx → EReal) (J : S8x512x1.Idx → BitVec 32) (b : Fin 8) (n : Fin 512) (k : Fin 128) :
    Host.gather gather_S100001x128_S8x512x1_S8x512x128_2_0_n_n_0_2_1128 tb J (ix3 b n k)
      = tb (ix2 ⟨min (J (ix3 b n 0)).toInt.toNat 100000, by omega⟩ k) := by
  unfold Host.gather
  refine congrArg tb (funext fun a => ?_)
  match a with
  | ⟨0, _⟩ =>
    refine Fin.ext ?_
    show gather_S100001x128_S8x512x1_S8x512x128_2_0_n_n_0_2_1128.start (ix3 b n k) J 0
      + gather_S100001x128_S8x512x1_S8x512x128_2_0_n_n_0_2_1128.batchCoord (ix3 b n k) 0
      + gather_S100001x128_S8x512x1_S8x512x128_2_0_n_n_0_2_1128.offCoord (ix3 b n k) 0
      = min (J (ix3 b n 0)).toInt.toNat 100000
    rw [← rows_start b n k ⟨0, by decide⟩]
    rfl
  | ⟨1, _⟩ => exact Fin.ext (Nat.zero_add _)

/-- One place of the rows taken, where every row number names a row. -/
theorem rowsTaken_at (ix : S8x512.Idx → BitVec 32) (tb : S100001x128.Idx → EReal) (h : ∀ j, (ix j).toNat < 100001)
    (b : Fin 8) (n : Fin 512) (k : Fin 128) :
    rowsTaken ix tb (ix3 b n k) = tb (ix2 ⟨(ix (ix2 b n)).toNat % 100001, Nat.mod_lt _ (by norm_num)⟩ k) := by
  have hJ : ∀ j, (rowNumbers ix j).toNat < 100001 := fun j => by
    idx_vars j
    rw [rowNumbers_at ix j0 j1 j2 (h _)]
    exact h _
  unfold rowsTaken
  pointwise
  rw [rowsIn_at _ hJ, gather_rows_at]
  have h' := h (ix2 b n)
  show tb _ = _
  refine congrArg (fun r => tb (ix2 r k)) (Fin.ext ?_)
  show min (rowNumbers ix (ix3 b n 0)).toInt.toNat 100000 = (ix (ix2 b n)).toNat % 100001
  rw [rowNumbers_at ix b n 0 h', toInt_toNat (by omega)]
  omega

/-! ## The bins' values -/

/-- The bins as the take reads them. -/
def binNumbers (D : S8x512x2048.Idx → BitVec 32) : S8x512x2048x1.Idx → BitVec 32 :=
  broadcastInDim S8x512x2048x1 ![0, 1, 2] bcast_S8x512x2048_S8x512x2048x1_0_1_2
    (select (cmpi .slt D (broadcastInDim S8x512x2048 ![] bcast_S_S8x512x2048 (constantI S_ 32 0#32)))
      (addi D (broadcastInDim S8x512x2048 ![] bcast_S_S8x512x2048 (constantI S_ 32 16#32))) D)

/-- Which of the bins are among the sixteen. -/
def binsIn (J : S8x512x2048x1.Idx → BitVec 32) : S8x512x2048.Idx → BitVec 1 :=
  Host.reduce IntOp.andi
    (andi (cmpi .sge J (broadcastInDim S8x512x2048x1 ![] bcast_S_S8x512x2048x1 (constantI S_ 32 0#32)))
      (cmpi .sle J (broadcastInDim S8x512x2048x1 ![0, 1, 2, 3] bcast_S1x1x1x1_S8x512x2048x1_0_1_2_3
        (broadcastInDim S1x1x1x1 ![3] bcast_S1_S1x1x1x1_3 (constantI S1 32 15#32)))))
    (constantI S_ 1 1#1) reducesTo_S8x512x2048x1_S8x512x2048_d3 h_S_

/-- The bins' values taken. -/
def binsTaken (D : S8x512x2048.Idx → BitVec 32) (W : S16.Idx → EReal) : S8x512x2048.Idx → EReal :=
  select (binsIn (binNumbers D))
    (Host.gather gather_S16_S8x512x2048x1_S8x512x2048_n_0_n_n_0_3_1 W (binNumbers D))
    (broadcastInDim S8x512x2048 ![] bcast_S_S8x512x2048 (constant (F := Ideal) S_ .f32 0x7FC00000#32))

theorem binNumbers_at (D : S8x512x2048.Idx → BitVec 32) (b : Fin 8) (n : Fin 512) (v : Fin 2048) (z : Fin 1) (h : (D (ix3 b n v)).toNat < 16) :
    binNumbers D (ix4 b n v z) = D (ix3 b n v) := by
  unfold binNumbers
  pointwise
  rw [slt_zero (by omega)]
  rfl

theorem binsIn_at (J : S8x512x2048x1.Idx → BitVec 32) (h : ∀ j, (J j).toNat < 16) (j : S8x512x2048.Idx) : binsIn J j = 1#1 := by
  refine Host.reduce_andi_one _ _ _ _ _ rfl fun i => ?_
  idx_vars i
  pointwise
  exact in_range (by have := h (ix4 i0 i1 i2 i3); show _ ≤ 15; omega) (by decide)

theorem bins_start (b : Fin 8) (n : Fin 512) (v : Fin 2048) (c) :
    gather_S16_S8x512x2048x1_S8x512x2048_n_0_n_n_0_3_1.siIdx (ix3 b n v) c = ix4 b n v 0 := by
  funext a
  match a with
  | ⟨0, _⟩ => exact Fin.ext rfl
  | ⟨1, _⟩ => exact Fin.ext rfl
  | ⟨2, _⟩ => exact Fin.ext rfl
  | ⟨3, _⟩ => exact Fin.ext (by have h : c.val < 1 := c.isLt; show c.val = 0; omega)

theorem gather_bins_at (W : S16.Idx → EReal) (J : S8x512x2048x1.Idx → BitVec 32) (b : Fin 8) (n : Fin 512) (v : Fin 2048) :
    Host.gather gather_S16_S8x512x2048x1_S8x512x2048_n_0_n_n_0_3_1 W J (ix3 b n v)
      = W (ix1 ⟨min (J (ix4 b n v 0)).toInt.toNat 15, by omega⟩) := by
  unfold Host.gather
  refine congrArg W (funext fun a => ?_)
  match a with
  | ⟨0, _⟩ =>
    refine Fin.ext ?_
    show gather_S16_S8x512x2048x1_S8x512x2048_n_0_n_n_0_3_1.start (ix3 b n v) J 0
      + gather_S16_S8x512x2048x1_S8x512x2048_n_0_n_n_0_3_1.batchCoord (ix3 b n v) 0
      + gather_S16_S8x512x2048x1_S8x512x2048_n_0_n_n_0_3_1.offCoord (ix3 b n v) 0
      = min (J (ix4 b n v 0)).toInt.toNat 15
    rw [← bins_start b n v ⟨0, by decide⟩]
    rfl

/-- One place of the bins' values taken, where every bin is one of the sixteen. -/
theorem binsTaken_at (D : S8x512x2048.Idx → BitVec 32) (W : S16.Idx → EReal) (h : ∀ j, (D j).toNat < 16)
    (b : Fin 8) (n : Fin 512) (v : Fin 2048) : binsTaken D W (ix3 b n v) = W (ix1 ⟨(D (ix3 b n v)).toNat, h _⟩) := by
  have hJ : ∀ j, (binNumbers D j).toNat < 16 := fun j => by
    idx_vars j
    rw [binNumbers_at D j0 j1 j2 j3 (h _)]
    exact h _
  unfold binsTaken
  pointwise
  rw [binsIn_at _ hJ, gather_bins_at]
  have h' := h (ix3 b n v)
  show W _ = _
  refine congrArg (fun r => W (ix1 r)) (Fin.ext ?_)
  show min (binNumbers D (ix4 b n v 0)).toInt.toNat 15 = (D (ix3 b n v)).toNat
  rw [binNumbers_at D b n v 0 h', toInt_toNat (by omega)]
  omega

end Cert.Proof.Takes
-- ==== Proof.RunSums.lean ====
/-
  The reference's running sums of the bins' weights at one place.
-/
module

public import proofs.«01_k».proof.Proof.KernelAt
public import proofs.«01_k».proof.Proof.Gen.ReferenceIdeal

@[expose] public section

set_option maxRecDepth 16384

noncomputable section

namespace Cert.Proof.RunSums

open Cert.ReferenceIdeal Cert.ReferenceIdeal.Gen
open Cert.Proof.Bins Cert.Proof.KernelAt

open Idealize.ShloMosaic

/-- The sixteen bin values as the reference computes them. -/
def sums (bwd : S16.Idx → EReal) (bws : S1.Idx → EReal) : S16.Idx → EReal :=
  addf (F := Ideal) (φ := .f32) (broadcastInDim S16 ![0] bcast_S1_S16_0 bws)
    (Host.reduceWindowAdd ![16] ![1] ![15] ![0]
      (maximumf bwd (broadcastInDim S16 ![] bcast_S_S16 (constant S_ .f32 0x00000000#32)))
      (broadcastInDim S_ ![] bcast_S_S_ (constant S_ .f32 0x00000000#32)) reduceWindows_S16_S16_w16s1p15_0 h_S_)

/-- The running sum as a start value and a sum. -/
theorem runSum_eq (s : EReal) (u : ℕ → EReal) (k : ℕ) : runSum s u k = s + ∑ i ∈ Finset.range (k + 1), u i := by
  induction k with
  | zero => simp [runSum]
  | succ k ih => rw [runSum, ih, Finset.sum_range_succ _ (k + 1), add_assoc]

theorem foldl_add {ι : Type} (f : ι → EReal) (l : List ι) (a : EReal) : l.foldl (fun r n => r + f n) a = a + (l.map f).sum := by
  induction l generalizing a with
  | nil => simp
  | cons x l ih => rw [List.foldl_cons, ih, List.map_cons, List.sum_cons, add_assoc]

/-- A window of sixteen that ends at `k` sums the first `k + 1` entries. -/
theorem window_sum (u : ℕ → EReal) (k : Fin 16) :
    (∑ n : Fin 16, if 15 ≤ k.val + n.val then u (k.val + n.val - 15) else 0) = ∑ i ∈ Finset.range (k.val + 1), u i := by
  fin_vals k with hk <;> simp only [hk] <;> simp [Fin.sum_univ_succ, Finset.sum_range_succ] <;> abel

/-- Position `n` of a window of sixteen is `n`. -/
theorem position (n : Fin (⟨1, ![16]⟩ : Shape).numel) : ((⟨1, ![16]⟩ : Shape).rowMajor.symm n 0).val = n.val := by
  have h := congrArg Fin.val (Equiv.apply_symm_apply (⟨1, ![16]⟩ : Shape).rowMajor n)
  rw [Shape.rowMajor_val_one] at h
  exact h

/-- The running sum's window at one place, as a sum over the window. -/
theorem window_at (x : S16.Idx → EReal) (u : ℕ → EReal) (hu : ∀ i : Fin 16, x (ix1 i) = u i.val) (v : S_.Idx → EReal)
    (hv : v (Shape.Idx.first h_S_) = 0) (k : Fin 16) :
    Host.reduceWindowAdd (F := Ideal) (φ := .f32) ![16] ![1] ![15] ![0] x v reduceWindows_S16_S16_w16s1p15_0 h_S_ (ix1 k)
      = ∑ n : Fin 16, if 15 ≤ k.val + n.val then u (k.val + n.val - 15) else 0 := by
  unfold Host.reduceWindowAdd
  rw [Ideal.hostReduceWindowAdd_def, hv]
  unfold Ideal.hostReduceWindowAdd Host.reduceWindow
  refine (foldl_add _ _ _).trans ?_
  rw [zero_add, ← Fin.sum_univ_def]
  refine Fintype.sum_equiv (finCongr (Shape.numel_rank1 ![16])) _ _ fun n => ?_
  have hn : n.val < 16 := (n.cast (Shape.numel_rank1 ![16])).isLt
  have hk := k.isLt
  have hp : ((ix1 k : S16.Idx) 0).val * (![1] : Fin 1 → ℕ) 0 + ((⟨1, ![16]⟩ : Shape).rowMajor.symm n 0).val = k.val + n.val :=
    congrArg₂ (· + ·) (Nat.mul_one _) (position n)
  split
  · next h =>
    have h0 := (h 0).1
    change 15 ≤ ((ix1 k : S16.Idx) 0).val * (![1] : Fin 1 → ℕ) 0 + ((⟨1, ![16]⟩ : Shape).rowMajor.symm n 0).val at h0
    rw [hp] at h0
    refine ((congrArg x (funext fun a => ?_)).trans (hu ⟨k.val + n.val - 15, by omega⟩)).trans
      (if_pos (show 15 ≤ k.val + n.val from h0)).symm
    match a with
    | ⟨0, _⟩ => exact Fin.ext (congrArg (· - 15) hp)
  · next h =>
    refine (if_neg fun h0 : 15 ≤ k.val + n.val => h fun a => ?_).symm
    match a with
    | ⟨0, _⟩ =>
      show 15 ≤ ((ix1 k : S16.Idx) 0).val * (![1] : Fin 1 → ℕ) 0 + ((⟨1, ![16]⟩ : Shape).rowMajor.symm n 0).val
        ∧ ((ix1 k : S16.Idx) 0).val * (![1] : Fin 1 → ℕ) 0 + ((⟨1, ![16]⟩ : Shape).rowMajor.symm n 0).val - 15 < 16
      rw [hp]
      omega

theorem sums_at (bwd : S16.Idx → EReal) (bws : S1.Idx → EReal) (k : Fin 16) :
    sums bwd bws (ix1 k) = runSum (bws (ix1 0)) (weight bwd) k.val := by
  rw [runSum_eq, ← window_sum]
  unfold sums
  pointwise
  rw [window_at _ (weight bwd)]
  · intro i
    pointwise
    exact (weight_eq bwd i.val i.isLt).symm
  · pointwise

end Cert.Proof.RunSums
-- ==== Proof.RefAt.lean ====
/-
  The reference's value over the extended reals at one place of the result.
-/
module

public import proofs.«01_k».proof.Proof.Takes
public import proofs.«01_k».proof.Proof.Consts
public import proofs.«01_k».proof.Proof.Bins
public import proofs.«01_k».proof.Proof.RunSums
public import proofs.«01_k».proof.Proof.Gen.ReferenceIdeal.Run
public import Idealize.ShloMosaic.Lib.StableHlo.Predicate
public import Idealize.ShloMosaic.Lib.Tactic.CleanTypes

@[expose] public section

set_option maxRecDepth 16384

noncomputable section

namespace Cert.Proof.RefAt

open Cert.ReferenceIdeal Cert.ReferenceIdeal.Gen Cert.ReferenceIdeal.Value
open Cert.Proof.Consts Cert.Proof.Bins Cert.Proof.Takes Cert.Proof.KernelAt Cert.Proof.RunSums

open Idealize.ShloMosaic Idealize.ShloMosaic.TcCoe

/-! ## The thresholds -/

/-- The fifteen thresholds as the reference computes them. -/
def mids : S15.Idx → EReal :=
  addf (F := Ideal) (φ := .f32) (broadcastInDim S15 ![] bcast_S_S15 (constant S_ .f32 0xBF000000#32))
    (Host.divf (mulf (sitofp .f32 (iotaInDim S15 32 0)) (broadcastInDim S15 ![] bcast_S_S15 (constant S_ .f32 0x43150000#32)))
      (broadcastInDim S15 ![] bcast_S_S15 (constant S_ .f32 0x44AF0000#32)))

theorem mids_at (i : Fin 15) : mids (ix1 i) = (thr i.val : EReal) := by
  unfold mids
  pointwise
  rw [neg_half, num_149, num_1400, Ideal.div_coe (by norm_num),
    show FloatOps.sitofp (F := Ideal) FTy.f32 (BitVec.ofNat 32 i.val) = ((i.val : ℝ) : EReal) from by
      show (((BitVec.ofNat 32 i.val).toInt : ℝ) : EReal) = _
      have e : (BitVec.ofNat 32 i.val).toInt = (i.val : ℤ) := by revert i; decide
      rw [e, Int.cast_natCast],
    ← EReal.coe_mul, ← EReal.coe_mul, ← EReal.coe_add]
  refine congrArg _ ?_
  unfold thr
  ring

/-! ## The bin of a value -/

/-- How many thresholds are at most each value. -/
def digits (X : S8x512x2048.Idx → EReal) : S8x512x2048.Idx → BitVec 32 :=
  Host.reduce IntOp.addi
    (extui 32 (cmpf (F := Ideal) (φ := .f32) .ole
      (broadcastInDim S8x512x2048x15 ![0, 1, 2, 3] bcast_S1x1x1x15_S8x512x2048x15_0_1_2_3 (broadcastInDim S1x1x1x15 ![3] bcast_S15_S1x1x1x15_3 mids))
      (broadcastInDim S8x512x2048x15 ![0, 1, 2, 3] bcast_S8x512x2048x1_S8x512x2048x15_0_1_2_3
        (broadcastInDim S8x512x2048x1 ![0, 1, 2] bcast_S8x512x2048_S8x512x2048x1_0_1_2 X))) natLt_1_32)
    (constantI S_ 32 0#32) reducesTo_S8x512x2048x15_S8x512x2048_d3 h_S_

theorem digits_at (X : S8x512x2048.Idx → EReal) (b : Fin 8) (n : Fin 512) (v : Fin 2048) :
    (digits X (ix3 b n v)).toNat = dig (X (ix3 b n v)) := by
  unfold digits
  pointwise
  have e : ∀ x : Fin 15, (BitVec.setWidth 32 (BitVec.ofBool (decide (mids (ix1 x) ≤ X (ix3 b n v))))).toNat
      = if (thr x.val : EReal) ≤ X (ix3 b n v) then 1 else 0 := fun x => by
    rw [mids_at]
    split
    · next h => rw [decide_eq_true h]; rfl
    · next h => rw [decide_eq_false h]; rfl
  have hs : ∑ x : Fin 15, (BitVec.setWidth 32 (BitVec.ofBool (decide (mids (ix1 x) ≤ X (ix3 b n v))))).toNat = dig (X (ix3 b n v)) := by
    rw [Finset.sum_congr rfl fun x _ => e x, Finset.sum_boole]
    rfl
  exact (StableHlo.Predicate.toNat_fold_addi _ _ (lt_of_eq_of_lt hs (by have := dig_le (X (ix3 b n v)); omega))).trans hs

/-! ## The whole -/

section Whole

variable (ix : S8x512.Idx → BitVec 32) (attn : S8x512.Idx → EReal) (tb : S100001x128.Idx → EReal) (vv : S128x2048.Idx → EReal)
variable (phi : S256x2048.Idx → EReal) (bwd : S16.Idx → EReal) (bws : S1.Idx → EReal)

/-- The similarities as the reference computes them. -/
def sims : S8x512x2048.Idx → EReal :=
  Host.dotGeneral (F := Ideal) (φ₁ := .f32) (φ₂ := .f32) dot_S8x512x128_S128x2048_S8x512x2048_2_0_01_1_n_n none (rowsTaken ix tb) vv

theorem sims_at (h : ∀ j, (ix j).toNat < 100001) (b : Fin 8) (n : Fin 512) (v : Fin 2048) :
    sims ix tb vv (ix3 b n v) = sim ix tb vv b n v := by
  unfold sims sim
  pointwise
  exact Finset.sum_congr rfl fun k _ => congrArg (· * _) (rowsTaken_at ix tb h b n k)

/-- One of the bins' values taken, where every row number names a row: the running sum that the similarity's bin selects. -/
theorem values_at (h : ∀ j, (ix j).toNat < 100001) (b : Fin 8) (n : Fin 512) (v : Fin 2048) :
    binsTaken (digits (sims ix tb vv)) (sums bwd bws) (ix3 b n v) = runSum (bws (ix1 0)) (weight bwd) (dig (sim ix tb vv b n v)) := by
  have hd : ∀ j, (digits (sims ix tb vv) j).toNat < 16 := fun j => by
    idx_vars j
    rw [digits_at]
    have := dig_le (sims ix tb vv (ix3 j0 j1 j2))
    omega
  rw [binsTaken_at _ _ hd, sums_at, Fin.val_mk, digits_at, sims_at ix tb vv h]

/-- The reference's result, by its stages. -/
def out : S8x256.Idx → EReal :=
  Host.dotGeneral (F := Ideal) (φ₁ := .f32) (φ₂ := .f32) dot_S8x2048_S2048x256_S8x256_1_0_0_1_n_n none
    (Host.dotGeneral (F := Ideal) (φ₁ := .f32) (φ₂ := .f32) dot_S8x512_S8x512x2048_S8x2048_1_1_n_2_0_0 none attn
      (binsTaken (digits (sims ix tb vv)) (sums bwd bws)))
    (transpose S2048x256 [1, 0] phi transposes_S256x2048_S2048x256_1_0)

/-- One place of the reference's result, where every row number names a row. -/
theorem out_at (h : ∀ j, (ix j).toNat < 100001) (b : Fin 8) (f : Fin 256) : out ix attn tb vv phi bwd bws (ix2 b f)
    = ∑ v : Fin 2048, (∑ n : Fin 512, attn (ix2 b n) * runSum (bws (ix1 0)) (weight bwd) (dig (sim ix tb vv b n v))) * phi (ix2 f v) := by
  unfold out
  pointwise
  exact Finset.sum_congr rfl fun v _ => congrArg (· * _) (Finset.sum_congr rfl fun n _ => congrArg _ (values_at ix tb vv bwd bws h b n v))

end Whole

/-- What the reference's run leaves is its stages of the arguments. -/
theorem res_eq (m : (ℓ : Loc nD τ sig) → Buf (Elt Ideal) ℓ) (c : Dev nD) :
    res_out0 (F := Ideal) m c = out (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := rfl

end Cert.Proof.RefAt
-- ==== Proof.Algebraic.lean ====
/-
  Over the extended reals the kernel and the reference leave the same array, under the second precondition.
-/
module

public import proofs.«01_k».proof.Proof.Equal
public import proofs.«01_k».proof.Proof.RefAt

@[expose] public section

set_option maxRecDepth 16384

noncomputable section

namespace Cert.Proof.Algebraic

open Cert.KernelIdeal
open Cert.Proof.Frames Cert.Proof.Bins Cert.Proof.KernelAt Cert.Proof.Equal

open Idealize.ShloMosaic Idealize.ShloMosaic.TcCoe Idealize.SL.Sem

/-- No weight is negative. -/
theorem weight_nonneg (w : S16.Idx → EReal) (i : ℕ) : 0 ≤ weight w i := by
  unfold weight
  split
  · exact le_max_right _ _
  · exact le_refl _

section Value

variable {ix : S8x512.Idx → BitVec 32} {attn : S8x512.Idx → EReal} {tb : S100001x128.Idx → EReal} {vv : S128x2048.Idx → EReal}
  {phi : S256x2048.Idx → EReal} {bwd : S16.Idx → EReal} {bws : S1.Idx → EReal}

/-- The kernel's array is the reference's. -/
theorem kern_eq_out (h : Cert.Pre_rows_exist_equal_bins.fn (F := Ideal) ix attn tb vv phi bwd bws = fun _ => 1#1) :
    Run.kern (F := Ideal) ix attn tb vv phi bwd bws = RefAt.out ix attn tb vv phi bwd bws := by
  obtain ⟨h2, h1, h15, hf⟩ := weights_of_equal_bins h
  funext j
  idx_vars j
  rw [kern_at, RefAt.out_at ix attn tb vv phi bwd bws fun i => rows_of_equal_bins h i]
  refine Finset.sum_congr rfl fun v _ => congrArg (· * _) (Finset.sum_congr rfl fun n _ => congrArg _ ?_)
  exact clipped_eq (weight_nonneg bwd) h1 h15 hf h2 _

end Value

/-- From memories whose arguments agree, the kernel's idealization and the reference both run and leave the same array, their
    arguments unchanged. -/
theorem algebraic : Cert.algebraic_KernelIdeal_ReferenceIdeal_pre_rows_exist_equal_bins := by
  intro m g m' g' h ha
  refine ⟨fun c => Run.kernAt (F := Ideal) m c,
    (θ_run Cert.KernelIdeal.defs _ _).mono (fun _ hr => hr.1) (Run.run_main (F := Ideal) m g fun c j => rows_of_equal_bins (h c) j),
    (θ_run Cert.ReferenceIdeal.defs _ _).mono (fun r hr c => ⟨(hr c).1.trans ?_, (hr c).2⟩) (Cert.ReferenceIdeal.Value.run (F := Ideal) m' g')⟩
  obtain ⟨h0, h1, h2, h3, h4, h5, h6⟩ := ha c
  refine (RefAt.res_eq m' c).trans ?_
  rw [h0, h1, h2, h3, h4, h5, h6]
  exact (kern_eq_out (h c)).symm

end Cert.Proof.Algebraic

end
-- ==== Proof.lean ====
/-
  The certificate's claim, assembled from the modules that prove its parts.
-/
module

public import proofs.«01_k».proof.Defs
public import proofs.«01_k».proof.Proof.Frames
public import proofs.«01_k».proof.Proof.Algebraic

@[expose] public section

noncomputable section

namespace Cert.Proof

open Frames Algebraic

/-- Every claim: the frames of the kernel, of its idealization and of the reference, the named constants, and the equal values. -/
theorem claim : Cert.Claim :=
  ⟨Cert.Kernel.Gen.facts, Cert.KernelIdeal.Gen.facts, Cert.ReferenceIdeal.Gen.facts, Cert.Pre_rows_exist.Gen.facts,
    Cert.Pre_rows_exist_equal_bins.Gen.facts, frame_kernel, frame_ideal, frame_ideal_bins, frame_reference, frame_reference_bins,
    preserves, algebraic⟩

end Cert.Proof

end
